-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨2, ![4096, 1024]⟩ ⟨2, ![16384, 1024]⟩ 0 4 c (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4096x1024 : Shape := ⟨2, ![4096, 1024]⟩
abbrev S16384x1024 : Shape := ⟨2, ![16384, 1024]⟩
abbrev S2x512x1024 : Shape := ⟨3, ![2, 512, 1024]⟩
abbrev S2 : Shape := ⟨1, ![2]⟩
abbrev S8 : Shape := ⟨1, ![8]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩
abbrev S2048x1024 : Shape := ⟨2, ![2048, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4096x1024, .f32⟩
  | .hbm, ⟨1, _⟩ => ⟨S16384x1024, .bf16⟩
  | .local _ .vmem, ⟨0, _⟩ => ⟨S2x512x1024, .f32⟩
  | .local _ .vmem, ⟨1, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩

abbrev nD : Nat := 4
abbrev τ : Topo := Topo.v7x

variable {F : FTy → Type} [FloatOps F]

abbrev grid0 : Pipeline.Grid := .none

def k0_off1 (d0 : Dev nD) (c0_i32_34 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4096_i32 : BitVec 32 := 4096#32
  let v46 : BitVec 32 := Scalar.muli v2 c4096_i32
  let v47 : BitVec 32 := Scalar.addi v46 c0_i32_34
  let c0_i32_39 : BitVec 32 := 0#32
  ![v47.toNat, 0]
def k0_dev1 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_37 : BitVec 32 := 1#32
  let v48 : BitVec 32 := Scalar.muli v24 c1_i32_37
  let v49 : BitVec 32 := Scalar.addi c0_i32_38 v48
  v49.toNat
def k0_dev2 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_44 : BitVec 32 := 1#32
  let v56 : BitVec 32 := Scalar.muli v13 c1_i32_44
  let v57 : BitVec 32 := Scalar.addi c0_i32_45 v56
  v57.toNat
def k0_dev3 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_67 : BitVec 32 := 1#32
  let v82 : BitVec 32 := Scalar.muli v24 c1_i32_67
  let v83 : BitVec 32 := Scalar.addi c0_i32_68 v82
  v83.toNat
def k0_dev4 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_74 : BitVec 32 := 1#32
  let v90 : BitVec 32 := Scalar.muli v13 c1_i32_74
  let v91 : BitVec 32 := Scalar.addi c0_i32_75 v90
  v91.toNat
def k0_dev5 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_97 : BitVec 32 := 1#32
  let v116 : BitVec 32 := Scalar.muli v24 c1_i32_97
  let v117 : BitVec 32 := Scalar.addi c0_i32_98 v116
  v117.toNat
def k0_dev6 (d0 : Dev nD) : Nat :=
  let c0_i32_105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_104 : BitVec 32 := 1#32
  let v124 : BitVec 32 := Scalar.muli v13 c1_i32_104
  let v125 : BitVec 32 := Scalar.addi c0_i32_105 v124
  v125.toNat
def k0_dev7 (d0 : Dev nD) : Nat :=
  let c0_i32_128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_127 : BitVec 32 := 1#32
  let v150 : BitVec 32 := Scalar.muli v24 c1_i32_127
  let v151 : BitVec 32 := Scalar.addi c0_i32_128 v150
  v151.toNat
def k0_dev8 (d0 : Dev nD) : Nat :=
  let c0_i32_135 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_134 : BitVec 32 := 1#32
  let v158 : BitVec 32 := Scalar.muli v13 c1_i32_134
  let v159 : BitVec 32 := Scalar.addi c0_i32_135 v158
  v159.toNat
def k0_dev9 (d0 : Dev nD) : Nat :=
  let c0_i32_159 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_158 : BitVec 32 := 1#32
  let v184 : BitVec 32 := Scalar.muli v24 c1_i32_158
  let v185 : BitVec 32 := Scalar.addi c0_i32_159 v184
  v185.toNat
def k0_dev10 (d0 : Dev nD) : Nat :=
  let c0_i32_166 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_165 : BitVec 32 := 1#32
  let v192 : BitVec 32 := Scalar.muli v13 c1_i32_165
  let v193 : BitVec 32 := Scalar.addi c0_i32_166 v192
  v193.toNat
def k0_dev11 (d0 : Dev nD) : Nat :=
  let c0_i32_189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_188 : BitVec 32 := 1#32
  let v218 : BitVec 32 := Scalar.muli v24 c1_i32_188
  let v219 : BitVec 32 := Scalar.addi c0_i32_189 v218
  v219.toNat
def k0_dev12 (d0 : Dev nD) : Nat :=
  let c0_i32_196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_195 : BitVec 32 := 1#32
  let v226 : BitVec 32 := Scalar.muli v13 c1_i32_195
  let v227 : BitVec 32 := Scalar.addi c0_i32_196 v226
  v227.toNat
def k0_dev13 (d0 : Dev nD) : Nat :=
  let c0_i32_219 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_218 : BitVec 32 := 1#32
  let v252 : BitVec 32 := Scalar.muli v24 c1_i32_218
  let v253 : BitVec 32 := Scalar.addi c0_i32_219 v252
  v253.toNat
def k0_dev14 (d0 : Dev nD) : Nat :=
  let c0_i32_226 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_225 : BitVec 32 := 1#32
  let v260 : BitVec 32 := Scalar.muli v13 c1_i32_225
  let v261 : BitVec 32 := Scalar.addi c0_i32_226 v260
  v261.toNat
def k0_dev15 (d0 : Dev nD) : Nat :=
  let c0_i32_244 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_243 : BitVec 32 := 1#32
  let v281 : BitVec 32 := Scalar.muli v24 c1_i32_243
  let v282 : BitVec 32 := Scalar.addi c0_i32_244 v281
  v282.toNat
def k0_dev16 (d0 : Dev nD) : Nat :=
  let c0_i32_251 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_250 : BitVec 32 := 1#32
  let v289 : BitVec 32 := Scalar.muli v13 c1_i32_250
  let v290 : BitVec 32 := Scalar.addi c0_i32_251 v289
  v290.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4096_i32_255 : BitVec 32 := 4096#32
  let v297 : BitVec 32 := Scalar.muli v2 c4096_i32_255
  let c0_i32_256 : BitVec 32 := 0#32
  ![v297.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c4096_i32_286 : BitVec 32 := 4096#32
  let v324 : BitVec 32 := Scalar.muli v13 c4096_i32_286
  let c0_i32_291 : BitVec 32 := 0#32
  ![v324.toNat, 0]
def k0_dev17 (d0 : Dev nD) : Nat :=
  let c0_i32_290 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_289 : BitVec 32 := 1#32
  let v325 : BitVec 32 := Scalar.muli v24 c1_i32_289
  let v326 : BitVec 32 := Scalar.addi c0_i32_290 v325
  v326.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c4096_i32_379 : BitVec 32 := 4096#32
  let v407 : BitVec 32 := Scalar.muli v24 c4096_i32_379
  let c2048_i32_380 : BitVec 32 := 2048#32
  let v408 : BitVec 32 := Scalar.addi v407 c2048_i32_380
  let c0_i32_385 : BitVec 32 := 0#32
  ![v408.toNat, 0]
def k0_dev18 (d0 : Dev nD) : Nat :=
  let c0_i32_384 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_383 : BitVec 32 := 1#32
  let v409 : BitVec 32 := Scalar.muli v13 c1_i32_383
  let v410 : BitVec 32 := Scalar.addi c0_i32_384 v409
  v410.toNat
-- ==== Reference.lean ====
abbrev S16384x1024 : Shape := ⟨2, ![16384, 1024]⟩

abbrev nBuf : Space → Nat
  | .hbm => 2
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Text.lean ====
/-
  The kernel's text in short form: the same operations as the printed body, with the chunk number a
  variable, so that each kind of operation is reasoned about once.
-/
module

public import proofs.«01_k».proof.Proof.Gen.KernelIdeal.Launch
public import proofs.«01_k».proof.Proof.Gen.KernelIdeal.Points
public import proofs.«01_k».proof.Proof.Gen.KernelIdeal.Skeleton

@[expose] public section

noncomputable section

namespace Cert.KernelIdeal.Gather

open Idealize.ShloMosaic
open Idealize.ShloMosaic.TcCoe
open Idealize.SL Idealize.SL.Sem
open Cert.KernelIdeal Cert.KernelIdeal.Gen

variable {F : FTy → Type} [FloatOps F]

/-! ## The windows -/

/-- The device's own rows, as it is given them. -/
abbrev xM : Memref sig .tc .hbm S4096x1024 .f32 := Memref.whole main_arg0
/-- The gathered array. -/
abbrev oM : Memref sig .tc .hbm S16384x1024 .bf16 := Memref.whole main_v1
/-- The two staging slots. -/
abbrev stM : Memref sig .tc .vmem S2x512x1024 .f32 := Memref.whole cc0_scratch0
/-- The device's rows after the cast. -/
abbrev cvM : Memref sig .tc .vmem S4096x1024 .bf16 := Memref.whole cc0_scratch1

/-- `cvM` is a whole buffer. -/
theorem cvM_whole : (cvM).IsWhole := Memref.isWhole_whole _
/-- `oM` is a whole buffer. -/
theorem oM_whole : (oM).IsWhole := Memref.isWhole_whole _

/-- Chunk `k` lies inside the device's rows. -/
theorem inbK : ∀ (k : Fin 8) a, (![512 * k.val, 0] : Fin 2 → Nat) a + S512x1024.size a ≤ S4096x1024.size a := by
  decide

/-- Slot `b` lies inside the staging buffer. -/
theorem inbSlot : ∀ (b : Fin 2) a, (![b.val, 0, 0] : Fin 3 → Nat) a + S1x512x1024.size a ≤ S2x512x1024.size a := by
  decide

/-- Semaphore `k` of eight. -/
theorem inb8 : ∀ (k : Fin 8) a, (![k.val] : Fin 1 → Nat) a + S1.size a ≤ S8.size a := by decide
/-- Semaphore `b` of two. -/
theorem inb2 : ∀ (b : Fin 2) a, (![b.val] : Fin 1 → Nat) a + S1.size a ≤ S2.size a := by decide

/-- The rows of chunk `k`, as a rectangle. -/
abbrev rK (k : Fin 8) : Rect S4096x1024 := Rect.unit (s := S4096x1024) ![512 * k.val, 0] S512x1024.size (inbK k)
/-- Slot `b`, as a rectangle. -/
abbrev rSlot (b : Fin 2) : Rect S2x512x1024 := Rect.unit (s := S2x512x1024) ![b.val, 0, 0] S1x512x1024.size (inbSlot b)
/-- The place of chunk `k` of device `c` in the gathered array, as a rectangle. -/
abbrev rO (c : Dev nD) (k : Fin 8) : Rect S16384x1024 :=
  Rect.unit (s := S16384x1024) (k0_off1 c (BitVec.ofNat 32 (512 * k.val))) S512x1024.size (k0_off1_inb c k)

/-- A chunk is whole words of the cast buffer. -/
theorem wordsK : ∀ k : Fin 8, (rK k).WholeWords (EltTy.packing .bf16) := by decide +kernel
/-- A chunk is packed rows of the cast buffer. -/
theorem packedK : ∀ k : Fin 8, (rK k).PackedRows (EltTy.packing .bf16) := by decide +kernel

/-- Chunk `k` of the rows given. -/
abbrev xK (k : Fin 8) : Memref sig .tc .hbm S512x1024 .f32 := xM.slice (rK k) (fun _ => rfl)
/-- Chunk `k` of the rows cast. -/
abbrev cK (k : Fin 8) : Memref sig .tc .vmem S512x1024 .bf16 := cvM.slice (rK k) (fun _ => rfl)
/-- Staging slot `b`. -/
abbrev sB (b : Fin 2) : Memref sig .tc .vmem S512x1024 .f32 :=
  (stM.slice (rSlot b) (fun _ => rfl)).squeeze S512x1024 squeezes_S1x512x1024_S512x1024
/-- Chunk `k` of device `c` in the gathered array. -/
abbrev oK (c : Dev nD) (k : Fin 8) : Memref sig .tc .hbm S512x1024 .bf16 := oM.slice (rO c k) (fun _ => rfl)
/-- Device `c`'s block of the gathered array. -/
abbrev oB (c : Dev nD) : Memref sig .tc .hbm S4096x1024 .bf16 :=
  oM.slice (Rect.unit (s := S16384x1024) (k0_off2 c) S4096x1024.size (k0_off2_inb c)) (fun _ => rfl)
/-- The half block device `c` passes to the right. -/
abbrev oR (c : Dev nD) : Memref sig .tc .hbm S2048x1024 .bf16 :=
  oM.slice (Rect.unit (s := S16384x1024) (k0_off3 c) S2048x1024.size (k0_off3_inb c)) (fun _ => rfl)
/-- The half block device `c` passes to the left. -/
abbrev oL (c : Dev nD) : Memref sig .tc .hbm S2048x1024 .bf16 :=
  oM.slice (Rect.unit (s := S16384x1024) (k0_off4 c) S2048x1024.size (k0_off4_inb c)) (fun _ => rfl)

/-- Semaphore `k` of an array of eight, as the text names it. -/
abbrev at8 (A : DmaSems sig S8) (k : Fin 8) : DmaSem sig :=
  ((A.slice (Rect.unit (s := S8) ![k.val] S1.size (inb8 k))).squeeze S_ squeezes_S1_S_).sem
/-- Semaphore `b` of an array of two, as the text names it. -/
abbrev at2 (A : DmaSems sig S2) (b : Fin 2) : DmaSem sig :=
  ((A.slice (Rect.unit (s := S2) ![b.val] S1.size (inb2 b))).squeeze S_ squeezes_S1_S_).sem

/-! ## The operations -/

/-- A piece of the kernel's text. -/
abbrev Piece (F : FTy → Type) [FloatOps F] := Prog (TpuEff nD τ sig (Elt F) Λ₀ .tc) PUnit

/-- The slot of chunk `k`. -/
abbrev slot (k : Fin 8) : Fin 2 := ⟨k.val % 2, Nat.mod_lt _ (by decide)⟩

/-- Start fetching chunk `k` into its slot. -/
def fetch (k : Fin 8) : Piece F :=
  Prog.lift (.enqueueDma (xK k) (.here (sB (slot k))) (.dma (at2 cc0_scratch2 (slot k)))
    (View.wordExact_bits rfl) ((View.wordExact_bits rfl).reshape _ _) ⟨Or.inl rfl, trivial⟩)

/-- Wait for chunk `k` in its slot. -/
def fetched (k : Fin 8) : Piece F :=
  Prog.lift (.waitDma2 (at2 cc0_scratch2 (slot k)) (xK k) (sB (slot k))
    (View.wordExact_bits rfl) ((View.wordExact_bits rfl).reshape _ _))

/-- Cast chunk `k` out of its slot. -/
def convert (k : Fin 8) : Piece F := do
  let v : Vec F S1x512x1024 .f32 ← Prog.lift (.load stM (rSlot (slot k)).toLoadRect (View.loadsAt_vmem h_S1x512x1024))
  let _w : Vec F S512x1024 .bf16 ← Prog.lift (.load cvM (rK k).toLoadRect (View.loadsAt_vmem h_S512x1024))
  Prog.lift (.store cvM (rK k) (k0_pay1 v) Finset.univ
    (View.stores_vmem h_S512x1024 (cvM_whole.storeExact_slice rfl _ (packedK k)) (fun _ => rfl)) (.inl rfl))

/-- Send chunk `k` of device `c` to its place on device `d`. -/
def send (c d : Dev nD) (k : Fin 8) (S R : DmaSems sig S8) : Piece F :=
  Prog.lift (.enqueueDma (cK k) (.remote (Dev.tc d) (oK c k) (.dma (at8 S k))) (.dma (at8 R k))
    (cvM_whole.wordExact_slice rfl _ (wordsK k)) (oM_whole.wordExact_slice rfl _ (k0_off1_wordsbf16 c k))
    ⟨⟨rfl, Or.inl rfl⟩, trivial⟩)

/-- Wait for a chunk received. -/
def received (c : Dev nD) (k : Fin 8) (R : DmaSems sig S8) : Piece F :=
  Prog.lift (.waitDma2 (at8 R k) (cK k) (oK c k)
    (cvM_whole.wordExact_slice rfl _ (wordsK k)) (oM_whole.wordExact_slice rfl _ (k0_off1_wordsbf16 c k)))

/-- Wait for a chunk sent. -/
def sent (c : Dev nD) (k : Fin 8) (S : DmaSems sig S8) : Piece F :=
  Prog.lift (.waitDma2 (at8 S k) (oK c k) (cK k)
    (oM_whole.wordExact_slice rfl _ (k0_off1_wordsbf16 c k)) (cvM_whole.wordExact_slice rfl _ (wordsK k)))

/-- Copy the cast rows to the device's own block. -/
def ownCopy (c : Dev nD) : Piece F :=
  Prog.lift (.enqueueDma cvM (.here (oB c)) (.dma cc0_scratch9.sem) cvM_whole.wordExact
    (oM_whole.wordExact_slice rfl _ (k0_off2_wordsbf16 c)) ⟨Or.inl rfl, trivial⟩)

/-- Wait for that copy. -/
def ownDone (c : Dev nD) : Piece F :=
  Prog.lift (.waitDma2 cc0_scratch9.sem cvM (oB c) cvM_whole.wordExact
    (oM_whole.wordExact_slice rfl _ (k0_off2_wordsbf16 c)))

/-- Pass the left neighbour's first half on to device `d`. -/
def passR (c d : Dev nD) : Piece F :=
  Prog.lift (.enqueueDma (oR c) (.remote (Dev.tc d) (oR c) (.dma (at2 cc0_scratch7 0))) (.dma (at2 cc0_scratch8 0))
    (oM_whole.wordExact_slice rfl _ (k0_off3_wordsbf16 c)) (oM_whole.wordExact_slice rfl _ (k0_off3_wordsbf16 c))
    ⟨⟨rfl, Or.inl rfl⟩, trivial⟩)

/-- Pass the right neighbour's second half on to device `d`. -/
def passL (c d : Dev nD) : Piece F :=
  Prog.lift (.enqueueDma (oL c) (.remote (Dev.tc d) (oL c) (.dma (at2 cc0_scratch7 1))) (.dma (at2 cc0_scratch8 1))
    (oM_whole.wordExact_slice rfl _ (k0_off4_wordsbf16 c)) (oM_whole.wordExact_slice rfl _ (k0_off4_wordsbf16 c))
    ⟨⟨rfl, Or.inl rfl⟩, trivial⟩)

/-- Wait for a half block of the first pass. -/
def passedR (c : Dev nD) (A : DmaSems sig S2) : Piece F :=
  Prog.lift (.waitDma2 (at2 A 0) (oR c) (oR c)
    (oM_whole.wordExact_slice rfl _ (k0_off3_wordsbf16 c)) (oM_whole.wordExact_slice rfl _ (k0_off3_wordsbf16 c)))

/-- Wait for a half block of the second pass. -/
def passedL (c : Dev nD) (A : DmaSems sig S2) : Piece F :=
  Prog.lift (.waitDma2 (at2 A 1) (oL c) (oL c)
    (oM_whole.wordExact_slice rfl _ (k0_off4_wordsbf16 c)) (oM_whole.wordExact_slice rfl _ (k0_off4_wordsbf16 c)))

/-! ## The text -/

/-- What is done with chunk `k` once it is fetched: cast, send right, send left. -/
def ship (c : Dev nD) (dR dL : Fin 8 → Dev nD) (k : Fin 8) : List (Piece F) :=
  [convert k, send c (dR k) k cc0_scratch3 cc0_scratch5, send c (dL k) k cc0_scratch4 cc0_scratch6]

/-- Chunk `k`, all but the last: the next fetch is started first. -/
def chunk (c : Dev nD) (dR dL : Fin 8 → Dev nD) (k : Fin 7) : List (Piece F) :=
  fetched k.castSucc :: fetch k.succ :: ship c dR dL k.castSucc

/-- What follows the eight chunks. -/
def rest (c eR eL : Dev nD) : List (Piece F) :=
  ownCopy c :: ((List.ofFn fun k : Fin 4 => received c (k.castLE (by decide)) cc0_scratch5)
    ++ passR c eR :: ((List.ofFn fun k : Fin 4 => received c (k.natAdd 4) cc0_scratch5)
    ++ ((List.ofFn fun k : Fin 8 => received c k cc0_scratch6)
    ++ passL c eL :: passedR c cc0_scratch7 :: passedR c cc0_scratch8 :: passedL c cc0_scratch7 :: passedL c cc0_scratch8
    :: ownDone c :: (List.ofFn fun k : Fin 8 => [sent c k cc0_scratch3, sent c k cc0_scratch4]).flatten)))

/-- The whole text of device `c`. -/
def text (c : Dev nD) (dR dL : Fin 8 → Dev nD) (eR eL : Dev nD) : List (Piece F) :=
  fetch 0 :: ((List.ofFn fun k : Fin 7 => chunk c dR dL k).flatten ++ (fetched 7 :: ship c dR dL 7) ++ rest c eR eL)

set_option maxRecDepth 65536 in
/-- The printed body is this text. -/
theorem bodyAt0_eq (t : Fin cfg0.N) : bodyAt0 (F := F) t = (Prog.lift .deviceId >>= fun d0 : Dev nD =>
    Pipeline.chain (text d0
      ![⟨k0_dev1 d0, k0_dev1_lt d0⟩, ⟨k0_dev3 d0, k0_dev3_lt d0⟩, ⟨k0_dev5 d0, k0_dev5_lt d0⟩, ⟨k0_dev7 d0, k0_dev7_lt d0⟩,
        ⟨k0_dev9 d0, k0_dev9_lt d0⟩, ⟨k0_dev11 d0, k0_dev11_lt d0⟩, ⟨k0_dev13 d0, k0_dev13_lt d0⟩, ⟨k0_dev15 d0, k0_dev15_lt d0⟩]
      ![⟨k0_dev2 d0, k0_dev2_lt d0⟩, ⟨k0_dev4 d0, k0_dev4_lt d0⟩, ⟨k0_dev6 d0, k0_dev6_lt d0⟩, ⟨k0_dev8 d0, k0_dev8_lt d0⟩,
        ⟨k0_dev10 d0, k0_dev10_lt d0⟩, ⟨k0_dev12 d0, k0_dev12_lt d0⟩, ⟨k0_dev14 d0, k0_dev14_lt d0⟩, ⟨k0_dev16 d0, k0_dev16_lt d0⟩]
      ⟨k0_dev17 d0, k0_dev17_lt d0⟩ ⟨k0_dev18 d0, k0_dev18_lt d0⟩)) := by
  chain_rfl

end Cert.KernelIdeal.Gather

end
-- ==== Proof.Pieces.lean ====
/-
  The buffers cut along rows, and what they hold: the rows given, the rows cast, the gathered array.
-/
module

public import proofs.«01_k».proof.Proof.Text
public import Idealize.ShloMosaic.Lib.Pipeline.Value
public import Idealize.ShloMosaic.Lib.Pipeline.ValueKit.Geometry

@[expose] public section

noncomputable section

namespace Cert.KernelIdeal.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The ghost algebra of the run's own semaphores. -/
abbrev UB : Type := URounds (GSem nD τ sig) Unit
/-- The ghost algebra of the whole proof: the launch's, the semaphores', the local copies'. -/
abbrev UU : Type := UR sig nD τ × (UB × Counters)

local notation "𝕄" => MT nD τ sig Unit (Elt F) ℕ UU ℕ

/-! ## The ring -/

set_option backward.proofsInPublic true in
/-- The right neighbour. -/
def rgt (c : Dev nD) : Dev nD := ⟨(c.val + 1) % 4, Nat.mod_lt _ (by decide)⟩
set_option backward.proofsInPublic true in
/-- The left neighbour. -/
def lft (c : Dev nD) : Dev nD := ⟨(c.val + 3) % 4, Nat.mod_lt _ (by decide)⟩
set_option backward.proofsInPublic true in
/-- The device across. -/
def opp (c : Dev nD) : Dev nD := ⟨(c.val + 2) % 4, Nat.mod_lt _ (by decide)⟩

/-- Right of left. -/
theorem rgt_lft (c : Dev nD) : rgt (lft c) = c := by revert c; decide
/-- Left of right. -/
theorem lft_rgt (c : Dev nD) : lft (rgt c) = c := by revert c; decide
/-- Left of left. -/
theorem lft_lft (c : Dev nD) : lft (lft c) = opp c := by revert c; decide
/-- Right of right. -/
theorem rgt_rgt (c : Dev nD) : rgt (rgt c) = opp c := by revert c; decide

/-! ## Rows -/

/-- `n` rows from row `a` of an array of `R` rows of 1024. -/
def rows (R a n : ℕ) : Finset (Shape.Idx ⟨2, ![R, 1024]⟩) :=
  Finset.univ.filter fun i => a ≤ (i 0).val ∧ (i 0).val < a + n

/-- Membership of a row set. -/
theorem mem_rows {R a n : ℕ} {i : Shape.Idx ⟨2, ![R, 1024]⟩} : i ∈ rows R a n ↔ a ≤ (i 0).val ∧ (i 0).val < a + n := by
  unfold rows; rw [Finset.mem_filter]; exact ⟨fun h => h.2, fun h => ⟨Finset.mem_univ _, h⟩⟩

/-- Every row. -/
theorem rows_all (R : ℕ) : rows R 0 R = Finset.univ := by
  ext i; rw [mem_rows]; have h : (i 0).val < R := (i 0).isLt
  exact ⟨fun _ => Finset.mem_univ _, fun _ => ⟨Nat.zero_le _, by omega⟩⟩

/-- Separate row sets are disjoint. -/
theorem rows_disjoint {R a n b p : ℕ} (h : a + n ≤ b ∨ b + p ≤ a) : Disjoint (rows R a n) (rows R b p) := by
  rw [Finset.disjoint_left]; intro i hi hj; rw [mem_rows] at hi hj; omega

/-- Adjacent row sets join. -/
theorem rows_union (R a n p : ℕ) : rows R a n ∪ rows R (a + n) p = rows R a (n + p) := by
  ext i; rw [Finset.mem_union, mem_rows, mem_rows, mem_rows]; omega

/-- A rectangle of whole rows is a row set. -/
theorem rect_rows {R a n : ℕ} {off : Fin 2 → ℕ} (hoff : off = ![a, 0])
    (inb : ∀ x, off x + (![n, 1024] : Fin 2 → ℕ) x ≤ (⟨2, ![R, 1024]⟩ : Shape).size x) :
    (Rect.unit (s := ⟨2, ![R, 1024]⟩) off ![n, 1024] inb).set = rows R a n := by
  subst hoff
  ext i; rw [Rect.mem_set_unit, mem_rows, Fin.forall_fin_two]
  have h1 : (i 1).val < 1024 := (i 1).isLt
  show ((a ≤ (i 0).val ∧ (i 0).val < a + n) ∧ (0 ≤ (i 1).val ∧ (i 1).val < 0 + 1024)) ↔ _
  exact ⟨fun h => h.1, fun h => ⟨h, Nat.zero_le _, by omega⟩⟩

/-! ## The windows' row sets -/

/-- `k0_off3` in closed form. -/
theorem off3_eq : ∀ c : Dev nD, k0_off3 c = ![4096 * (lft c).val, 0] := by decide +kernel
/-- `k0_off4` in closed form. -/
theorem off4_eq : ∀ c : Dev nD, k0_off4 c = ![4096 * (rgt c).val + 2048, 0] := by decide +kernel

/-- The elements of chunk `k` of the cast buffer. -/
theorem cK_set (k : Fin 8) : (cK k).view.set = rows 4096 (512 * k.val) 512 :=
  (View.set_slice_whole _ _).trans (rect_rows rfl _)
/-- The elements of chunk `k` of the rows given. -/
theorem xK_set (k : Fin 8) : (xK k).view.set = rows 4096 (512 * k.val) 512 :=
  (View.set_slice_whole _ _).trans (rect_rows rfl _)
/-- The elements of chunk `k` of device `c`. -/
theorem oK_set (c : Dev nD) (k : Fin 8) : (oK c k).view.set = rows 16384 (4096 * c.val + 512 * k.val) 512 :=
  (View.set_slice_whole _ _).trans (rect_rows (k0_off1_eq c k) _)
/-- The elements of block `c`. -/
theorem oB_set (c : Dev nD) : (oB c).view.set = rows 16384 (4096 * c.val) 4096 :=
  (View.set_slice_whole _ _).trans (rect_rows (k0_off2_eq c) _)
/-- The elements passed right. -/
theorem oR_set (c : Dev nD) : (oR c).view.set = rows 16384 (4096 * (lft c).val) 2048 :=
  (View.set_slice_whole _ _).trans (rect_rows (off3_eq c) _)
/-- The elements passed left. -/
theorem oL_set (c : Dev nD) : (oL c).view.set = rows 16384 (4096 * (rgt c).val + 2048) 2048 :=
  (View.set_slice_whole _ _).trans (rect_rows (off4_eq c) _)

/-! ## Contents -/

/-- What the rows given of every device are. -/
abbrev Given (F : FTy → Type) := (c : Dev nD) → Buf (Elt F) ((c : Thread nD τ).loc main_arg0)

/-- One element cast. -/
abbrev cast1 (x : F .f32) : F .bf16 := FloatOps.truncf .bf16 bitsLt_bf16_f32 x

/-- Device `c`'s rows after the cast. -/
def cast (X : Given F) (c : Dev nD) : Buf (Elt F) ((c : Thread nD τ).loc cc0_scratch1) :=
  fun i : S4096x1024.Idx => cast1 (X c i)

/-- The device whose block holds row `r`. -/
def owner (i : S16384x1024.Idx) : Dev nD :=
  ⟨(i 0).val / 4096, by have h : (i 0).val < 16384 := (i 0).isLt; show _ < 4; omega⟩

/-- The row inside that block. -/
def inner (i : S16384x1024.Idx) : S4096x1024.Idx := fun a => match a with
  | ⟨0, _⟩ => ⟨(i 0).val % 4096, Nat.mod_lt _ (by decide)⟩
  | ⟨1, _⟩ => ⟨(i 1).val, (i 1).isLt⟩

/-- The gathered array: every device's rows after the cast, in order. The same on every device. -/
def all (X : Given F) : S16384x1024.Idx → F .bf16 := fun i => cast1 (X (owner i) (inner i))

/-- The gathered array at a place of block `c`. -/
theorem all_at (X : Given F) (c : Dev nD) (i : S16384x1024.Idx) (j : S4096x1024.Idx)
    (h0 : (i 0).val = 4096 * c.val + (j 0).val) (h1 : (i 1).val = (j 1).val) :
    all X i = cast X c j := by
  have hj : (j 0).val < 4096 := (j 0).isLt
  have ho : owner i = c := Fin.ext (by show (i 0).val / 4096 = c.val; omega)
  have hi : inner i = j := by
    funext a; match a with
    | ⟨0, _⟩ => exact Fin.ext (by show (i 0).val % 4096 = (j 0).val; omega)
    | ⟨1, _⟩ => exact Fin.ext h1
  unfold all cast; rw [ho, hi]

omit [FloatOps F] in
/-- What is written through a view onto its own elements, told element by element. -/
theorem write_on {κ : Kind} {sp : Space} {s : Shape} {e : EltTy} (v : View sig κ sp s e) (hE : v.ty.elt = e) (f g : v.ty.Contents (Elt F))
    (w : s.Idx → Elt F e) (h : ∀ x : s.Idx, g (v.emb x) = _root_.cast (congrArg (Elt F) v.elt_eq.symm) (w x)) :
    ∀ i ∈ v.set, v.write (Elt F) f w Finset.univ i = g i := by
  intro i hi
  obtain ⟨x, -, rfl⟩ := Finset.mem_map.mp hi
  rw [View.write_emb_of_mem _ _ (Finset.mem_univ x), h]

/-- The row of an element of chunk `k` of device `c`. -/
theorem oK_row (c : Dev nD) (k : Fin 8) (x : S512x1024.Idx) : ((oK c k).view.emb x 0).val = 4096 * c.val + 512 * k.val + (x 0).val :=
  (ValueKit.view_emb_slice_whole_unit_val main_v1 _ _ (k0_off1_inb c k) x 0).trans (congrArg (· + (x 0).val) (congrFun (k0_off1_eq c k) 0))
/-- Its column. -/
theorem oK_col (c : Dev nD) (k : Fin 8) (x : S512x1024.Idx) : ((oK c k).view.emb x 1).val = (x 1).val :=
  (ValueKit.view_emb_slice_whole_unit_val main_v1 _ _ (k0_off1_inb c k) x 1).trans
    ((congrArg (· + (x 1).val) (congrFun (k0_off1_eq c k) 1)).trans (Nat.zero_add _))
/-- The row of an element of chunk `k` of the cast rows. -/
theorem cK_row (k : Fin 8) (x : S512x1024.Idx) : ((cK k).view.emb x 0).val = 512 * k.val + (x 0).val :=
  ValueKit.view_emb_slice_whole_unit_val cc0_scratch1 _ _ (inbK k) x 0
/-- Its column. -/
theorem cK_col (k : Fin 8) (x : S512x1024.Idx) : ((cK k).view.emb x 1).val = (x 1).val :=
  (ValueKit.view_emb_slice_whole_unit_val cc0_scratch1 _ _ (inbK k) x 1).trans (Nat.zero_add _)
/-- The row of an element of block `c`. -/
theorem oB_row (c : Dev nD) (x : S4096x1024.Idx) : ((oB c).view.emb x 0).val = 4096 * c.val + (x 0).val :=
  (ValueKit.view_emb_slice_whole_unit_val main_v1 _ _ (k0_off2_inb c) x 0).trans (congrArg (· + (x 0).val) (congrFun (k0_off2_eq c) 0))
/-- Its column. -/
theorem oB_col (c : Dev nD) (x : S4096x1024.Idx) : ((oB c).view.emb x 1).val = (x 1).val :=
  (ValueKit.view_emb_slice_whole_unit_val main_v1 _ _ (k0_off2_inb c) x 1).trans
    ((congrArg (· + (x 1).val) (congrFun (k0_off2_eq c) 1)).trans (Nat.zero_add _))

/-- Chunk `k` written to its place on another device is the gathered array there. -/
theorem write_oK (X : Given F) (c d : Dev nD) (k : Fin 8) (f : Buf (Elt F) ((oK c k).view.loc (d : Thread nD τ))) :
    ∀ i ∈ (oK c k).view.set, (oK c k).view.write (Elt F) f ((cK k).view.read (Elt F) (cast X c)) Finset.univ i = all X i :=
  write_on _ rfl _ _ _ fun x => all_at X c _ ((cK k).view.emb x)
    ((oK_row c k x).trans ((Nat.add_assoc _ _ _).trans (congrArg _ (cK_row k x).symm))) ((oK_col c k x).trans (cK_col k x).symm)

/-- The device's own block written from the cast rows is the gathered array there. -/
theorem write_oB (X : Given F) (c : Dev nD) (f : Buf (Elt F) ((oB c).view.loc (c : Thread nD τ))) :
    ∀ i ∈ (oB c).view.set, (oB c).view.write (Elt F) f ((cvM).view.read (Elt F) (cast X c)) Finset.univ i = all X i :=
  write_on _ rfl _ _ _ fun x => all_at X c _ x (oB_row c x) (oB_col c x)

omit [FloatOps F] in
/-- A window copied onto the same window of another device carries its contents over. -/
theorem write_same {κ : Kind} {sp : Space} {s : Shape} {e : EltTy} (v : View sig κ sp s e) (f g : v.ty.Contents (Elt F)) :
    ∀ i ∈ v.set, v.write (Elt F) f (v.read (Elt F) g) Finset.univ i = g i := by
  intro i hi
  obtain ⟨x, -, rfl⟩ := Finset.mem_map.mp hi
  rw [View.write_emb_of_mem _ _ (Finset.mem_univ x), View.read_apply, cast_cast, cast_eq]

/-- What a slot's chunk is once cast. -/
theorem pay_at (v : Vec F S1x512x1024 .f32) (x : S512x1024.Idx) :
    k0_pay1 v x = cast1 (v (Shape.reshapeEquiv shapeCasts_S1x512x1024_S512x1024 x)) := by
  unfold k0_pay1; rw [shapeCast_self]; rfl

/-- The slot of chunk `k` after its fetch, over what it held. -/
abbrev slotAfter (X : Given F) (c : Dev nD) (b : Fin 2) (k : Fin 8) (f : Buf (Elt F) ((sB b).view.loc (c : Thread nD τ))) :
    Buf (Elt F) ((sB b).view.loc (c : Thread nD τ)) :=
  (sB b).view.write (Elt F) f ((xK k).view.read (Elt F) (X c)) Finset.univ

/-- Chunk `k` cast out of its slot is the cast rows' chunk `k`. -/
theorem write_cK (X : Given F) (c : Dev nD) (b : Fin 2) (k : Fin 8) (f : Buf (Elt F) ((sB b).view.loc (c : Thread nD τ)))
    (g : Buf (Elt F) ((cK k).view.loc (c : Thread nD τ))) :
    ∀ i ∈ (cK k).view.set, (cK k).view.write (Elt F) g
      (k0_pay1 ((stM).view.readAt (Elt F) (rSlot b).toLoadRect (slotAfter X c b k f))) Finset.univ i = cast X c i :=
  write_on _ rfl _ _ _ fun x => by
    have h : k0_pay1 ((stM).view.readAt (Elt F) (rSlot b).toLoadRect (slotAfter X c b k f)) x
        = cast1 ((sB b).view.read (Elt F) (slotAfter X c b k f) x) := pay_at _ x
    rw [View.read_write_univ] at h
    rw [h]; rfl

/-- A load of slot `b` reads the slot's elements only. -/
theorem slot_sub (b : Fin 2) : (stM).view.setOn (rSlot b).set ⊆ (sB b).view.set := by
  have h1 : (sB b).view.set = ((stM).view.slice (rSlot b)).set := View.set_reshape ((stM).view.slice (rSlot b)) _
  rw [h1, View.set_slice]; exact Finset.Subset.refl _

end Cert.KernelIdeal.Gather

end
-- ==== Proof.Cells.lean ====
/-
  The semaphores the devices pay each other on: who pays, how much, and what comes with the payment.
-/
module

public import proofs.«01_k».proof.Proof.Pieces

@[expose] public section

noncomputable section

namespace Cert.KernelIdeal.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- No procedure recurses. -/
abbrev 𝒱₀ : Variants := Variants.none

/-- The launch's ghost component. -/
abbrev EP : Emb (UR sig nD τ) (MT nD τ sig Unit (Elt F) ℕ UU ℕ) := embL
/-- The semaphores' ghost component. -/
abbrev ER : Emb UB (MT nD τ sig Unit (Elt F) ℕ UU ℕ) := (Emb.inl : Emb UB (UB × Counters)).trans embR
/-- The local copies' ghost component. -/
abbrev EC : UEmb Counters (MT nD τ sig Unit (Elt F) ℕ UU ℕ) := countersEmb

/-! ## The pieces held -/

/-- Rows `[a, a + n)` of the gathered array on device `d`. -/
def oP (d : Dev nD) (a n : ℕ) (f : Buf (Elt F) ((d : Thread nD τ).loc main_v1)) : sProp 𝕄 :=
  ((d : Thread nD τ).loc main_v1) ↦[rows 16384 a n]{fullShare} f

/-- Chunk `k` of the cast rows of device `c`, at share `q`. -/
def cP (c : Dev nD) (q : PosShare TreeShare) (k : Fin 8) (f : Buf (Elt F) ((c : Thread nD τ).loc cc0_scratch1)) : sProp 𝕄 :=
  ((c : Thread nD τ).loc cc0_scratch1) ↦[rows 4096 (512 * k.val) 512]{q} f

omit [FloatOps F] in
instance oP_storable (d : Dev nD) (a n : ℕ) (f) : BI.Storable (upEmb : UEmb _ 𝕄) (oP (F := F) d a n f) := by
  unfold oP; infer_instance
omit [FloatOps F] in
instance cP_storable (c : Dev nD) (q) (k : Fin 8) (f) : BI.Storable (upEmb : UEmb _ 𝕄) (cP (F := F) c q k f) := by
  unfold cP; infer_instance

/-- The share of the cast rows lent to the copy to the right. -/
abbrev qR : PosShare TreeShare := fullShare.left
/-- The share lent to the copy to the left. -/
abbrev qL : PosShare TreeShare := fullShare.right.left
/-- The share kept for the device's own block. -/
abbrev qO : PosShare TreeShare := fullShare.right.right

omit [FloatOps F] in
/-- A chunk of the cast rows in its three shares. -/
theorem cP_shares (c : Dev nD) (k : Fin 8) (f) :
    cP (F := F) c fullShare k f ⊣⊢ iprop(cP c qR k f ∗ cP c qL k f ∗ cP c qO k f) :=
  ⟨(pointsTo_share (PosShare.mem_left_op_right fullShare)).1.trans
      (sep_mono_right (pointsTo_share (PosShare.mem_left_op_right fullShare.right)).1),
    (sep_mono_right (pointsTo_share (PosShare.mem_left_op_right fullShare.right)).2).trans
      (pointsTo_share (PosShare.mem_left_op_right fullShare)).2⟩

/-! ## The cells -/

/-- The semaphores paid on. `inl (a, k)`: chunk `k` sent right (0), sent left (1), received from the left
    (2), received from the right (3). `inr (0, b)`: the half block passed right (0) or left (1) has gone;
    `inr (1, b)`: the half block coming the same way has arrived. -/
abbrev Cell : Type := (Fin 4 × Fin 8) ⊕ (Fin 2 × Fin 2)

/-- A cell's semaphore. -/
def semOf : Cell → DmaSem sig
  | .inl (a, k) => ⟨2 + 8 * a.val + k.val, by show _ < 39; omega⟩
  | .inr (a, b) => ⟨34 + 2 * a.val + b.val, by show _ < 39; omega⟩

/-- The cell of a semaphore. -/
def dec (s : DmaSem sig) : Option Cell :=
  if h : 2 ≤ s.val ∧ s.val < 34 then
    some (.inl (⟨(s.val - 2) / 8, by omega⟩, ⟨(s.val - 2) % 8, Nat.mod_lt _ (by decide)⟩))
  else if h : 34 ≤ s.val ∧ s.val < 38 then
    some (.inr (⟨(s.val - 34) / 2, by omega⟩, ⟨(s.val - 34) % 2, Nat.mod_lt _ (by decide)⟩))
  else none

/-- A cell's semaphore decodes to it. -/
theorem dec_semOf : ∀ x : Cell, dec (semOf x) = some x := by decide

/-- Two cells never share a semaphore. -/
theorem semOf_inj : Function.Injective semOf := fun a b h => by
  have := congrArg dec h; rw [dec_semOf, dec_semOf] at this; exact Option.some.inj this

/-- Cell `x` of device `c`. -/
abbrev gcell (c : Dev nD) (x : Cell) : GSem nD τ sig := ((c : Thread nD τ), .dma (semOf x))

/-- The text's names of the semaphores. -/
theorem at_sendR : ∀ k : Fin 8, at8 cc0_scratch3 k = semOf (.inl (0, k)) := by decide
/-- Sent left. -/
theorem at_sendL : ∀ k : Fin 8, at8 cc0_scratch4 k = semOf (.inl (1, k)) := by decide
/-- Received from the left. -/
theorem at_recvL : ∀ k : Fin 8, at8 cc0_scratch5 k = semOf (.inl (2, k)) := by decide
/-- Received from the right. -/
theorem at_recvR : ∀ k : Fin 8, at8 cc0_scratch6 k = semOf (.inl (3, k)) := by decide
/-- A half block gone. -/
theorem at_gone : ∀ b : Fin 2, at2 cc0_scratch7 b = semOf (.inr (0, b)) := by decide
/-- A half block arrived. -/
theorem at_come : ∀ b : Fin 2, at2 cc0_scratch8 b = semOf (.inr (1, b)) := by decide

/-- A chunk's credit. -/
def NK : ℕ := (oK 0 0).view.dmaCredit
/-- A half block's credit. -/
def NH : ℕ := (oR 0).view.dmaCredit
/-- A chunk has elements. -/
theorem NK_pos : 0 < NK := View.dmaCredit_pos _ (by decide)
/-- A half block has elements. -/
theorem NH_pos : 0 < NH := View.dmaCredit_pos _ (by decide)

/-- A cell's payment. -/
def amt : Cell → ℕ
  | .inl _ => NK
  | .inr _ => NH

/-- A payment is positive. -/
theorem amt_pos (x : Cell) : 0 < amt x := by rcases x with x | x; exacts [NK_pos, NH_pos]

/-- What comes with the payment of cell `x` of device `c`: the share lent comes back, or the rows received
    hold the gathered array's. -/
def pay (X : Given F) (c : Dev nD) : Cell → sProp 𝕄
  | .inl (0, k) => cP c qR k (cast X c)
  | .inl (1, k) => cP c qL k (cast X c)
  | .inl (2, k) => oP c (4096 * (lft c).val + 512 * k.val) 512 (all X)
  | .inl (3, k) => oP c (4096 * (rgt c).val + 512 * k.val) 512 (all X)
  | .inr (0, 0) => oP c (4096 * (lft c).val) 2048 (all X)
  | .inr (0, 1) => oP c (4096 * (rgt c).val + 2048) 2048 (all X)
  | .inr (1, 0) => oP c (4096 * (opp c).val) 2048 (all X)
  | .inr (1, 1) => oP c (4096 * (opp c).val + 2048) 2048 (all X)

instance pay_storable (X : Given F) (c : Dev nD) (x : Cell) : BI.Storable (upEmb : UEmb _ 𝕄) (pay X c x) := by
  unfold pay; split <;> infer_instance

/-- The schedule: one round, one payment on each cell. -/
def Rd (X : Given F) : Rounds.Schedule (GSem nD τ sig) Unit 𝕄 where
  duties g r := match g.2 with
    | .dma s => if r = 0 ∧ g.1.2 = .tc ∧ (dec s).isSome then {()} else ∅
    | .reg _ => ∅
  unitless _ := False
  amount g _ _ := match g.2 with
    | .dma s => (dec s).elim 1 amt
    | .reg _ => 1
  payload g _ _ := match g.2 with
    | .dma s => (dec s).elim iprop(emp) (pay X g.1.1)
    | .reg _ => iprop(emp)
  amount_pos g _ _ _ := by
    rcases g with ⟨g, s | s⟩
    · exact Nat.one_pos
    · show 0 < (dec s).elim 1 amt
      rcases dec s with _ | x
      · exact Nat.one_pos
      · exact amt_pos x

instance Rd_storable (X : Given F) (g : GSem nD τ sig) (r : ℕ) (d : Unit) :
    BI.Storable (upEmb : UEmb _ 𝕄) ((Rd X).payload g r d) := by
  rcases g with ⟨g, s | s⟩
  · show BI.Storable upEmb (iprop(emp) : sProp 𝕄); infer_instance
  · show BI.Storable upEmb ((dec s).elim iprop(emp) (pay X g.1) : sProp 𝕄)
    rcases dec s with _ | x
    · show BI.Storable upEmb (iprop(emp) : sProp 𝕄); infer_instance
    · show BI.Storable upEmb (pay X g.1 x); infer_instance

section
variable (X : Given F) (c : Dev nD) (x : Cell)

/-- A cell's one duty. -/
theorem Rd_duties : (Rd X).duties (gcell c x) 0 = {()} := by
  show (if 0 = 0 ∧ (c : Thread nD τ).2 = .tc ∧ (dec (semOf x)).isSome then ({()} : Finset Unit) else ∅) = _
  rw [dec_semOf]; exact if_pos ⟨rfl, rfl, rfl⟩
/-- No later round. -/
theorem Rd_later (g : GSem nD τ sig) : ∀ r, 1 ≤ r → (Rd X).duties g r = ∅ := by
  intro r hr; rcases g with ⟨g, s | s⟩
  · rfl
  · show (if r = 0 ∧ _ then ({()} : Finset Unit) else ∅) = ∅
    exact if_neg fun h => by omega
/-- Its amount. -/
theorem Rd_amount : (Rd X).amount (gcell c x) 0 () = amt x := by
  show (dec (semOf x)).elim 1 amt = _
  rw [dec_semOf]; rfl
/-- What it brings. -/
theorem Rd_payload : (Rd X).payload (gcell c x) 0 () = pay X c x := by
  show (dec (semOf x)).elim iprop(emp) (pay X c) = _
  rw [dec_semOf]; rfl
/-- What its round expects. -/
theorem Rd_expect : (Rd X).expect (gcell c x) 0 = amt x := by
  unfold Schedule.expect Schedule.amountOf
  rw [Rd_duties, Finset.sum_singleton, Rd_amount]
/-- What its round brings. -/
theorem Rd_rest : bigSep ((Rd X).duties (gcell c x) 0 \ ∅) (fun d => (Rd X).payload (gcell c x) 0 d) = pay X c x := by
  rw [Finset.sdiff_empty, Rd_duties, bigSep_singleton, Rd_payload]

end

/-! ## Levels and debts -/

/-- Every semaphore of a device is levelled. -/
def L (g : GSem nD τ sig) : Finset Unit := if g.1.2 = .tc then {()} else ∅

/-- The level of a cell: what is waited for while debts are outstanding stands below them. -/
def lvOf : Option Cell → ℕ
  | some (.inl (a, _)) => if 2 ≤ a.val then 1 else 0
  | some (.inr (a, _)) => if a.val = 1 then 2 else 0
  | none => 0

/-- The level of a semaphore. -/
def lv (g : GSem nD τ sig) (_ : Unit) : ℕ := match g.2 with
  | .dma s => lvOf (dec s)
  | .reg _ => 0

/-- The level of a cell's semaphore. -/
theorem lv_gcell (c : Dev nD) (x : Cell) : lv (gcell c x) () = lvOf (some x) := by
  show lvOf (dec (semOf x)) = _; rw [dec_semOf]

/-- Other threads' semaphores are not levelled. -/
theorem L_of_ne (g : GSem nD τ sig) (h : g.1.2 ≠ .tc) : L g = ∅ := if_neg h
/-- A device's are. -/
theorem L_tc (c : Dev nD) (sm : SemLoc sig) : L ((c : Thread nD τ), sm) = {()} := if_pos rfl

/-- Device `c`'s debt for sending chunk `k` right. -/
def dR (c : Dev nD) (k : Fin 8) : CellTallies nD τ sig Unit := tallyAt (gcell (rgt c) (.inl (2, k))) () NK
/-- For sending it left. -/
def dL (c : Dev nD) (k : Fin 8) : CellTallies nD τ sig Unit := tallyAt (gcell (lft c) (.inl (3, k))) () NK
/-- For passing a half block right. -/
def eR (c : Dev nD) : CellTallies nD τ sig Unit := tallyAt (gcell (rgt c) (.inr (1, 0))) () NH
/-- For passing a half block left. -/
def eL (c : Dev nD) : CellTallies nD τ sig Unit := tallyAt (gcell (lft c) (.inr (1, 1))) () NH

/-- The debts for the two passes. -/
def OP (c : Dev nD) : CellTallies nD τ sig Unit := eL c + eR c

/-- The debts of device `c` when `n` chunks have been sent. -/
def OC (c : Dev nD) (n : ℕ) : CellTallies nD τ sig Unit :=
  OP c + ∑ k : Fin 8, if n ≤ k.val then dL c k + dR c k else 0

/-- Sending chunk `k` settles two debts. -/
theorem OC_step (c : Dev nD) (k : Fin 8) : OC c k.val = (OC c (k.val + 1) + dL c k) + dR c k := by
  unfold OC
  rw [← Finset.add_sum_erase Finset.univ (fun j : Fin 8 => if k.val ≤ j.val then dL c j + dR c j else 0) (Finset.mem_univ k),
    ← Finset.add_sum_erase Finset.univ (fun j : Fin 8 => if k.val + 1 ≤ j.val then dL c j + dR c j else 0) (Finset.mem_univ k),
    if_pos le_rfl, if_neg (by omega), zero_add,
    Finset.sum_congr rfl (g := fun j : Fin 8 => if k.val + 1 ≤ j.val then dL c j + dR c j else 0) (fun j hj => by
      have hne : j ≠ k := (Finset.mem_erase.mp hj).1
      have hv : j.val ≠ k.val := fun h => hne (Fin.ext h)
      by_cases h : k.val ≤ j.val
      · rw [if_pos h, if_pos (by omega)]
      · rw [if_neg h, if_neg (by omega)])]
  ac_rfl

/-- When all are sent the passes remain. -/
theorem OC_end (c : Dev nD) : OC c 8 = OP c := by
  unfold OC
  rw [Finset.sum_eq_zero fun k _ => if_neg (by have := k.isLt; omega), add_zero]

/-- All debts stand above level `n`. -/
def Hi (n : ℕ) (O : CellTallies nD τ sig Unit) : Prop := ∀ g u, 0 < O g u → u ∈ L g ∧ n < lv g u

/-- No debt. -/
theorem Hi_zero (n : ℕ) : Hi n 0 := fun g u h => absurd h (Nat.lt_irrefl 0)
/-- Two debts. -/
theorem Hi_add {n : ℕ} {O P : CellTallies nD τ sig Unit} (hO : Hi n O) (hP : Hi n P) : Hi n (O + P) := fun g u h => by
  rw [Pi.add_apply, Finsupp.add_apply] at h
  rcases Nat.eq_zero_or_pos (O g u) with h0 | h0
  · exact hP g u (by omega)
  · exact hO g u h0
/-- One debt. -/
theorem Hi_at {n : ℕ} (c : Dev nD) (x : Cell) (N : ℕ) (hx : n < lvOf (some x)) : Hi n (tallyAt (gcell c x) () N) := fun g u h => by
  rw [tallyAt_apply] at h
  by_cases hg : g = gcell c x ∧ u = ()
  · obtain ⟨rfl, -⟩ := hg
    refine ⟨?_, (lv_gcell c x).symm ▸ hx⟩
    rw [L_tc]; exact Finset.mem_singleton_self _
  · rw [if_neg hg] at h; exact absurd h (Nat.lt_irrefl 0)
/-- Many debts. -/
theorem Hi_sum {n : ℕ} {ι : Type} (s : Finset ι) (O : ι → CellTallies nD τ sig Unit) (h : ∀ i, Hi n (O i)) : Hi n (∑ i ∈ s, O i) := by
  classical
  induction s using Finset.induction_on with
  | empty => rw [Finset.sum_empty]; exact Hi_zero n
  | insert i s hi ih => rw [Finset.sum_insert hi]; exact Hi_add (h i) ih

/-- The passes' debts stand above the chunks. -/
theorem Hi_OP (c : Dev nD) : Hi 1 (OP c) :=
  Hi_add (Hi_at _ _ _ (by decide)) (Hi_at _ _ _ (by decide))
/-- and the second pass alone. -/
theorem Hi_eL (c : Dev nD) : Hi 1 (eL c) := Hi_at _ _ _ (by decide)
/-- Every debt stands above the fetches. -/
theorem Hi_OC (c : Dev nD) (n : ℕ) : Hi 0 (OC c n) :=
  Hi_add (fun g u h => ⟨(Hi_OP c g u h).1, lt_trans Nat.zero_lt_one (Hi_OP c g u h).2⟩) (Hi_sum _ _ fun k => by
    split
    · exact Hi_add (Hi_at _ _ _ (by simp [lvOf])) (Hi_at _ _ _ (by simp [lvOf]))
    · exact Hi_zero 0)

omit [FloatOps F] in
/-- A wait may stand while the debts are above it. -/
theorem mayWait (c : Dev nD) (s : DmaSem sig) (n : ℕ) (hs : lvOf (dec s) ≤ n) (O : CellTallies nD τ sig Unit) (hO : Hi n O) :
    (levAts L lv : sProp 𝕄) ⊢ MayWait (c : Thread nD τ) (.dma s) () O :=
  MayOwe.of_cut (L := L) (lev := lv) n
    (fun p hp => by rw [Finset.mem_singleton.mp hp, L_tc]; exact Finset.mem_singleton_self _)
    (fun g u hg => (hO g u hg).1)
    (fun p hp => by rw [Finset.mem_singleton.mp hp]; exact hs)
    (fun g u hg => (hO g u hg).2)

/-! ## What every device knows -/

/-- Every cell of every device is open for its round. -/
def Ctx (X : Given F) (K : Dev nD × Cell → ℕ) : sProp 𝕄 :=
  bigSep Finset.univ fun p : Dev nD × Cell => iprop(cellInv ER (Rd X) (K p) (gcell p.1 p.2) ∗ reached ER (gcell p.1 p.2) 0)

instance Ctx_persistent (X : Given F) (K : Dev nD × Cell → ℕ) : BI.Persistent (Ctx X K) := by unfold Ctx; infer_instance

/-- One cell of it. -/
theorem Ctx_at (X : Given F) (K : Dev nD × Cell → ℕ) (c : Dev nD) (x : Cell) :
    Ctx X K ⊢ iprop(cellInv ER (Rd X) (K (c, x)) (gcell c x) ∗ reached ER (gcell c x) 0) := by
  classical
  unfold Ctx
  exact BI.bigSep_elim (i := (c, x)) (Finset.mem_univ _)

/-- What device `c` owes, whatever it has waited for. -/
def debt (c : Dev nD) (O : CellTallies nD τ sig Unit) : sProp 𝕄 := iprop(∃ W, owes (c : Thread nD τ) O W)

/-- Cell `x` of device `c` still to be waited for. -/
def pend (c : Dev nD) (x : Cell) : sProp 𝕄 :=
  iprop(cred (tallyAt (gcell c x) () (amt x)) ∗ atPos ER (gcell c x) 0 ∅ 0)

/-- Cell `x` of device `c` waited for. -/
def got (X : Given F) (c : Dev nD) (x : Cell) : sProp 𝕄 := iprop(semVal (gcell c x) 0 ∗ pay X c x)

variable (X : Given F) (K : Dev nD × Cell → ℕ)

/-- The wait for a cell. -/
theorem wait_cell (c : Dev nD) (x : Cell) (O : CellTallies nD τ sig Unit) (hO : (levAts L lv : sProp 𝕄) ⊢ MayWait (c : Thread nD τ) (.dma (semOf x)) () O)
    {κ' : Kind} {sp sp' : Space} {s s' : Shape} {e e' : EltTy} {src : Memref sig (c : Thread nD τ).2.kind sp' s' e'} {dst : Memref sig κ' sp s e}
    {hsrc : src.view.WordExact} {hdst : dst.view.WordExact} (hN : dst.view.dmaCredit = amt x) :
    iprop((Ctx X K ∗ levAts L lv) ∗ pend c x ∗ debt c O)
      ⊢ wp frame (wpE (defs₀ (F := F)) 𝒱₀ (c : Thread nD τ) none) Set.univ (Prog.lift (.waitDma2 (semOf x) src dst hsrc hdst))
          (fun _ => iprop(got X c x ∗ debt c O)) := by
  unfold pend debt got
  iintro ⟨⟨#HC, #HL⟩, ⟨Hc, Hat⟩, ⟨%W, HO⟩⟩
  ihave H := (Ctx_at X K c x) $$ HC
  icases H with ⟨#HI, -⟩
  iapply (Rounds.wp_wait_rest_token 𝒱₀ ER (Rd X) (c : Thread nD τ) none (κ := K (c, x))
      (wpE_waitDma2_eq 𝒱₀ (c : Thread nD τ) none Set.univ) (Set.mem_univ _) () (O := O) (W := W) (R := 0) (m := 0) (T := ∅)
      (by rw [Nat.zero_add, hN, Rd_expect])) $$ [Hc HO Hat]
  · isplitr; · iexact HI
    isplitl [Hc]; · rw [hN]; iexact Hc
    isplitl [HO]; · iexact HO
    isplitr; · iapply hO; iexact HL
    iexact Hat
  iintro ⟨HO, Hat, -, Hpay⟩
  imod (Rounds.cell_close ER (Rd X) (Set.mem_univ (K (c, x))) (fun h => h) (R := 0 + 1) (Rd_later X (gcell c x))) $$ [Hat] with Hz
  · isplitr; · iexact HI
    iexact Hat
  rw [wp_ret]; imodintro
  isplitl [Hz Hpay]
  · isplitl [Hz]; · iexact Hz
    iapply (Entails.of_eq (Rd_rest X c x)); iexact Hpay
  iexists (insert (SemLoc.dma (semOf x), ()) W); iexact HO

end Cert.KernelIdeal.Gather

end
-- ==== Proof.Items.lean ====
/-
  What each operation of the kernel's text does, stated once for every chunk, slot and device.
-/
module

public import proofs.«01_k».proof.Proof.Cells

@[expose] public section

noncomputable section

namespace Cert.KernelIdeal.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Given F) (K : Dev nD × Cell → ℕ)

/-- What every device may use at any time. -/
def ctx : sProp 𝕄 := iprop(Ctx X K ∗ levAts L lv)

instance ctx_persistent : BI.Persistent (ctx X K) := by unfold ctx; infer_instance

/-- On device `c` the piece of text `p` takes `P` to `Q`. -/
def It (c : Dev nD) (P : sProp 𝕄) (p : Piece F) (Q : sProp 𝕄) : Prop :=
  iprop(ctx X K ∗ P) ⊢ wp frame (wpE (defs₀ (F := F)) 𝒱₀ (c : Thread nD τ) none) Set.univ p (fun _ => Q)

/-- On device `c` the pieces `l` in turn take `P` to `Q`. -/
def Tri (c : Dev nD) (P : sProp 𝕄) (l : List (Piece F)) (Q : sProp 𝕄) : Prop := It X K c P (Pipeline.chain l) Q

section
variable {X K} {c : Dev nD}

/-- What is not touched stays. -/
theorem It.framed {P Q : sProp 𝕄} {p : Piece F} (h : It X K c P p Q) (R : sProp 𝕄) : It X K c iprop(P ∗ R) p iprop(Q ∗ R) :=
  (sep_assoc (PROP := sProp 𝕄)).2.trans ((sep_mono_left h).trans (wp_frame_r _ _ _))

/-- Less may be asked and more given. -/
theorem It.conseq {P P' Q Q' : sProp 𝕄} {p : Piece F} (hP : P' ⊢ P) (h : It X K c P p Q) (hQ : Q ⊢ Q') : It X K c P' p Q' :=
  (sep_mono_right hP).trans (h.trans (wp_mono _ _ _ fun _ => hQ))

/-- One piece after the other. -/
theorem It.seq {P M Q : sProp 𝕄} {p q : Piece F} (h : It X K c P p M) (t : It X K c M q Q) : It X K c P (p >>= fun _ => q) Q := by
  unfold It at h t ⊢
  rw [wp_bind]
  have h1 : iprop(ctx X K ∗ P) ⊢ iprop(ctx X K ∗ wp frame (wpE (defs₀ (F := F)) 𝒱₀ (c : Thread nD τ) none) Set.univ p (fun _ => M)) := by
    iintro ⟨#HC, HP⟩
    isplitr; · iexact HC
    iapply h
    isplitr; · iexact HC
    iexact HP
  exact h1.trans ((wp_frame_l _ _ _).trans (wp_mono _ _ _ fun _ => t))

/-- No text. -/
theorem Tri.nil {P Q : sProp 𝕄} (h : P ⊢ Q) : Tri X K c P [] Q := by
  show iprop(ctx X K ∗ P) ⊢ wp frame (wpE (defs₀ (F := F)) 𝒱₀ (c : Thread nD τ) none) Set.univ (.ret PUnit.unit : Piece F) (fun _ => Q)
  rw [wp_ret]
  iintro ⟨-, HP⟩
  imodintro
  iapply h; iexact HP

/-- A piece, then the rest, around what the piece does not touch. -/
theorem Tri.cons {P A B Q : sProp 𝕄} (R : sProp 𝕄) {p : Piece F} {l : List (Piece F)} (h : It X K c A p B) (hP : P ⊢ iprop(A ∗ R))
    (t : Tri X K c iprop(B ∗ R) l Q) : Tri X K c P (p :: l) Q :=
  It.seq ((h.framed R).conseq hP .rfl) t

/-- Two texts in turn. -/
theorem Tri.append {P M Q : sProp 𝕄} {l l' : List (Piece F)} (h : Tri X K c P l M) (t : Tri X K c M l' Q) : Tri X K c P (l ++ l') Q := by
  induction l generalizing P with
  | nil =>
    have h' : iprop(ctx X K ∗ P) ⊢ |={Set.univ}=> M := h
    have t' : iprop(ctx X K ∗ M) ⊢ wp frame (wpE (defs₀ (F := F)) 𝒱₀ (c : Thread nD τ) none) Set.univ (Pipeline.chain l') (fun _ => Q) := t
    show iprop(ctx X K ∗ P) ⊢ wp frame (wpE (defs₀ (F := F)) 𝒱₀ (c : Thread nD τ) none) Set.univ (Pipeline.chain l') (fun _ => Q)
    iintro ⟨#HC, HP⟩
    imod h' $$ [HP] with HM
    · isplitr; · iexact HC
      iexact HP
    iapply t'
    isplitr; · iexact HC
    iexact HM
  | cons p l ih =>
    have h' : iprop(ctx X K ∗ P) ⊢ wp frame (wpE (defs₀ (F := F)) 𝒱₀ (c : Thread nD τ) none) Set.univ (p >>= fun _ => Pipeline.chain l) (fun _ => M) := h
    rw [wp_bind] at h'
    show It X K c P (p >>= fun _ => Pipeline.chain (l ++ l')) Q
    unfold It
    rw [wp_bind]
    have h1 : iprop(ctx X K ∗ P) ⊢ iprop(ctx X K ∗ wp frame (wpE (defs₀ (F := F)) 𝒱₀ (c : Thread nD τ) none) Set.univ p
        (fun _ => wp frame (wpE (defs₀ (F := F)) 𝒱₀ (c : Thread nD τ) none) Set.univ (Pipeline.chain l) (fun _ => M))) := by
      iintro ⟨#HC, HP⟩
      isplitr; · iexact HC
      iapply h'
      isplitr; · iexact HC
      iexact HP
    refine h1.trans ((wp_frame_l _ _ _).trans (wp_mono _ _ _ fun _ => ?_))
    have h2 := ih (P := wp frame (wpE (defs₀ (F := F)) 𝒱₀ (c : Thread nD τ) none) Set.univ (Pipeline.chain l) (fun _ => M))
      (show iprop(ctx X K ∗ _) ⊢ _ from sep_elim_right)
    exact h2

/-- A text framed, then another. -/
theorem Tri.then {P A B Q : sProp 𝕄} (R : sProp 𝕄) {l l' : List (Piece F)} (h : Tri X K c A l B) (hP : P ⊢ iprop(A ∗ R))
    (t : Tri X K c iprop(B ∗ R) l' Q) : Tri X K c P (l ++ l') Q :=
  Tri.append (show Tri X K c P l iprop(B ∗ R) from (It.framed h R).conseq hP .rfl) t

/-- One text for every index, with something carried along. -/
theorem Tri.family {n : ℕ} (A B : Fin n → sProp 𝕄) (D : Fin (n + 1) → sProp 𝕄) (f : Fin n → List (Piece F))
    (h : ∀ k : Fin n, Tri X K c iprop(A k ∗ D k.castSucc) (f k) iprop(B k ∗ D k.succ)) :
    Tri X K c iprop(bigSep Finset.univ A ∗ D 0) (List.ofFn f).flatten iprop(bigSep Finset.univ B ∗ D (Fin.last n)) := by
  induction n with
  | zero =>
    refine Tri.nil ?_
    rw [show (Finset.univ : Finset (Fin 0)) = ∅ from rfl]
    exact .rfl
  | succ n ih =>
    have split : ∀ Φ : Fin (n + 1) → sProp 𝕄, bigSep Finset.univ Φ = iprop(Φ 0 ∗ bigSep Finset.univ fun k : Fin n => Φ k.succ) := fun Φ => by
      rw [Fin.univ_succ, Finset.cons_eq_insert]
      exact (BI.bigSep_insert (by simp)).trans (congrArg (BI.sep (Φ 0)) (BI.bigSep_map _))
    have h0 := h 0
    rw [Fin.castSucc_zero] at h0
    rw [List.ofFn_succ, List.flatten_cons, split A, split B]
    refine Tri.then (bigSep Finset.univ fun k : Fin n => A k.succ) h0 ?_
      (It.conseq (P := iprop(((bigSep Finset.univ fun k : Fin n => A k.succ) ∗ D (Fin.succ 0)) ∗ B 0))
        (Q := iprop(((bigSep Finset.univ fun k : Fin n => B k.succ) ∗ D (Fin.last (n + 1))) ∗ B 0)) ?_
        (It.framed (ih (fun k => A k.succ) (fun k => B k.succ) (fun k => D k.succ) (fun k => f k.succ) fun k => h k.succ) (B 0)) ?_)
    · iintro ⟨⟨H, H'⟩, HD⟩; iframe
    · iintro ⟨⟨H, H'⟩, HD⟩; iframe
    · iintro ⟨⟨H, H'⟩, HD⟩; iframe

end

/-! ## Fetching -/

/-- The share of the rows given that slot `b` reads at. -/
def qS : Fin 2 → PosShare TreeShare
  | 0 => fullShare.left
  | 1 => fullShare.right

/-- The fetch semaphore of slot `b`. -/
abbrev fetchSem (b : Fin 2) : DmaSem sig := at2 cc0_scratch2 b

/-- A slot's credit. -/
def NS : ℕ := (sB 0).view.dmaCredit

/-- Slot `b` is free. -/
def idle (c : Dev nD) (b : Fin 2) : sProp 𝕄 :=
  iprop((∃ f, (sB b).view.loc (c : Thread nD τ) ↦[(sB b).view.set]{fullShare} f) ∗ semVal ((c : Thread nD τ), .dma (fetchSem b)) 0
    ∗ ((c : Thread nD τ).loc main_arg0) ↦[Finset.univ]{qS b} X c)

/-- Slot `b` is being filled with chunk `k`. -/
def busy (c : Dev nD) (b : Fin 2) (k : Fin 8) : sProp 𝕄 :=
  iprop(∃ f, Transfers.Flight EC (c : Thread nD τ) (.dma (fetchSem b)) () NS
      iprop(((sB b).view.loc (c : Thread nD τ) ↦[(sB b).view.set]{fullShare} slotAfter X c b k f)
        ∗ (xK k).view.loc (c : Thread nD τ) ↦[(xK k).view.set]{qS b} X c)
    ∗ ((xK k).view.loc (c : Thread nD τ) ↦[Finset.univ \ (xK k).view.set]{qS b} X c))

/-- Slot `b` holds chunk `k`. -/
def loaded (c : Dev nD) (b : Fin 2) (k : Fin 8) : sProp 𝕄 :=
  iprop((∃ f, (sB b).view.loc (c : Thread nD τ) ↦[(sB b).view.set]{fullShare} slotAfter X c b k f) ∗ semVal ((c : Thread nD τ), .dma (fetchSem b)) 0
    ∗ ((c : Thread nD τ).loc main_arg0) ↦[Finset.univ]{qS b} X c)

/-- Fetch semaphores are level zero. -/
theorem lv_fetch : ∀ b : Fin 2, lvOf (dec (fetchSem b)) ≤ 0 := by decide

/-- A fetch starts. -/
theorem fetch_it (c : Dev nD) (k : Fin 8) : It X K c (idle X c (slot k)) (fetch k) (busy X c (slot k) k) := by
  unfold It idle busy fetch
  iintro ⟨-, ⟨%f, Hs⟩, Hz, Hx⟩
  ihave Hx' := (pointsTo_split_subset (ℓ := (xK k).view.loc (c : Thread nD τ)) (q := qS (slot k)) (f := X c) (Finset.subset_univ (xK k).view.set)).1 $$ Hx
  icases Hx' with ⟨Hx, Hr⟩
  iapply (Transfers.wp_dmaLocal EC 𝒱₀ (c : Thread nD τ) none () NS (src := xK k) (dst := sB (slot k)) (sm := .dma (fetchSem (slot k))) rfl (View.dmaCredit_pos _ (by decide)) (Finset.Subset.refl _)) $$ [Hs Hz Hx]
  · isplitl [Hx]; · iexact Hx
    isplitl [Hs]; · iexact Hs
    iexact Hz
  iintro Hf
  rw [wp_ret]; imodintro
  iexists f
  isplitl [Hf]; · iexact Hf
  iexact Hr

/-- A fetch is waited for. -/
theorem fetched_it (c : Dev nD) (k : Fin 8) (O : CellTallies nD τ sig Unit) (hO : Hi 0 O) :
    It X K c iprop(busy X c (slot k) k ∗ debt c O) (fetched k) iprop(loaded X c (slot k) k ∗ debt c O) := by
  unfold It busy loaded fetched debt ctx
  iintro ⟨⟨-, #HL⟩, ⟨%f, Hf, Hr⟩, ⟨%W, HO⟩⟩
  iapply (Transfers.wp_waitLocalO EC 𝒱₀ (c : Thread nD τ) none () (dstw := sB (slot k)) (N := NS) rfl) $$ [Hf HO]
  · isplitl [Hf]; · iexact Hf
    isplitl [HO]; · iexact HO
    iapply (mayWait c (fetchSem (slot k)) 0 (lv_fetch _) O hO); iexact HL
  iintro ⟨⟨Hs, Hx⟩, Hz, HO⟩
  rw [wp_ret]; imodintro
  isplitl [Hs Hx Hz Hr]
  · isplitl [Hs]; · iexists f; iexact Hs
    isplitl [Hz]; · iexact Hz
    iapply (pointsTo_split_subset (ℓ := (xK k).view.loc (c : Thread nD τ)) (q := qS (slot k)) (f := X c) (Finset.subset_univ (xK k).view.set)).2
    isplitl [Hx]; · iexact Hx
    iexact Hr
  iexists _; iexact HO

/-! ## Casting -/

/-- Chunk `k` of the cast buffer at some contents. -/
def cAny (c : Dev nD) (k : Fin 8) : sProp 𝕄 := iprop(∃ f, cP c fullShare k f)

/-- A chunk is cast out of its slot. -/
theorem convert_it (c : Dev nD) (k : Fin 8) :
    It X K c iprop(loaded X c (slot k) k ∗ cAny c k) (convert k) iprop(idle X c (slot k) ∗ cP c fullShare k (cast X c)) := by
  unfold It loaded idle cAny convert cP
  rw [← cK_set k]
  iintro ⟨-, ⟨⟨%f, Hs⟩, Hz, Hx⟩, %g, Hc⟩
  iapply (wp_load 𝒱₀ (c : Thread nD τ) none Set.univ (m := stM) (r := (rSlot (slot k)).toLoadRect) (slot_sub (slot k))) $$ Hs
  iintro Hs
  iapply (wp_load_rect 𝒱₀ (c : Thread nD τ) none Set.univ (m := cvM) (r := rK k) (Finset.Subset.refl _)) $$ Hc
  iintro Hc
  iapply (wp_store 𝒱₀ (c : Thread nD τ) none Set.univ (m := cvM) (r := rK k) (Mk := Finset.univ)
      (S := (cK k).view.set) (show (cK k).view.setOn Finset.univ ⊆ (cK k).view.set from Finset.Subset.refl _)) $$ Hc
  iintro Hc
  rw [wp_ret]; imodintro
  isplitl [Hs Hz Hx]
  · isplitl [Hs]; · iexists _; iexact Hs
    isplitl [Hz]; · iexact Hz
    iexact Hx
  iapply (Entails.of_eq (pointsTo_congr (write_cK X c (slot k) k f g))); iexact Hc

/-! ## Sending -/

/-- A payment's token. -/
abbrev tok (c : Dev nD) (x : Cell) : sProp 𝕄 := dutyTok ER (gcell c x) 0 ()

/-- A copy to another device: the share read goes with the one payment, the rows written with the other. -/
theorem send_cell (c d : Dev nD) (x y : Cell) {sS sD : DmaSem sig} (hS : sS = semOf x) (hD : sD = semOf y)
    {sp sp' : Space} {s : Shape} {e : EltTy} {src : Memref sig .tc sp s e} {dst : Memref sig .tc sp' s e}
    {hsc : dst.view.ref.isScScratch = false} {hsrc : src.view.WordExact} {hdst : dst.view.WordExact}
    {hsem : DmaTarget.Typed (nD := nD) sp (.dma sD) (.remote (Dev.tc d) dst (.dma sS) hsc)}
    {q : PosShare TreeShare} {fs : Buf (Elt F) (src.view.loc (c : Thread nD τ))} {fd : Buf (Elt F) (dst.view.loc (d : Thread nD τ))}
    (hN : dst.view.dmaCredit = amt y) (hxy : amt x = amt y)
    (hpay₁ : (src.view.loc (c : Thread nD τ) ↦[src.view.set]{q} fs) ⊢ pay X c x)
    (hpay₂ : (dst.view.loc (d : Thread nD τ) ↦[dst.view.set]{fullShare} (dst.view.write (Elt F) fd (src.view.read (Elt F) fs) Finset.univ)) ⊢ pay X d y)
    (O : CellTallies nD τ sig Unit) :
    It X K c
      iprop((src.view.loc (c : Thread nD τ) ↦[src.view.set]{q} fs) ∗ (dst.view.loc (d : Thread nD τ) ↦[dst.view.set]{fullShare} fd)
        ∗ tok c x ∗ tok d y ∗ atPos ER (gcell c x) 0 ∅ 0 ∗ debt c (O + tallyAt (gcell d y) () (amt y)))
      (Prog.lift (.enqueueDma src (.remote (Dev.tc d) dst (.dma sS) hsc) (.dma sD) hsrc hdst hsem))
      iprop(pend c x ∗ debt c O) := by
  subst hS hD
  unfold It debt ctx pend
  iintro ⟨⟨#HC, -⟩, Hs, Hd, Ht, Ht', Hat, %W, HO⟩
  ihave H1 := (Ctx_at X K c x) $$ HC
  icases H1 with ⟨#HI, #HR⟩
  ihave H2 := (Ctx_at X K d y) $$ HC
  icases H2 with ⟨#HI', #HR'⟩
  iapply (Rounds.wp_send_pointsTo 𝒱₀ ER (Rd X) (c : Thread nD τ) none (κ₁ := K (c, x)) (κ₂ := K (d, y)) (c' := (d : Thread nD τ))
      (sS := .dma (semOf x)) (sem := .dma (semOf y))
      (r₁ := 0) (r₂ := 0) (d₁ := ()) (d₂ := ()) (fs := fs) (fd := fd)
      (by rw [Rd_duties]; exact Finset.mem_singleton_self _) (by rw [Rd_duties]; exact Finset.mem_singleton_self _)
      () () (amt y) hN ((Rd_amount X c x).trans hxy) (Rd_amount X d y) O rfl
      (hpay₁.trans (Entails.of_eq (Rd_payload X c x).symm)) (hpay₂.trans (Entails.of_eq (Rd_payload X d y).symm)))
    $$ [Hs Hd Ht Ht' HO]
  · isplitr; · iexact HI
    isplitr; · iexact HI'
    isplitl [Hs]; · iexact Hs
    isplitl [Hd]; · iexact Hd
    isplitl [HO]; · iexact HO
    isplitl [Ht]; · iexact Ht
    isplitr; · iexact HR
    isplitl [Ht']; · iexact Ht'
    iexact HR'
  iintro ⟨Hc, HO⟩
  rw [wp_ret]; imodintro
  isplitl [Hc Hat]
  · isplitl [Hc]; · rw [hxy]; iexact Hc
    iexact Hat
  iexists W; iexact HO

/-- The initial contents of the gathered array on each device. -/
abbrev Init (F : FTy → Type) := (d : Dev nD) → Buf (Elt F) ((d : Thread nD τ).loc main_v1)

variable (V : Init F)

/-- What sending chunk `k` right needs besides the chunk. -/
def needR (c : Dev nD) (k : Fin 8) : sProp 𝕄 :=
  iprop(oP (rgt c) (4096 * c.val + 512 * k.val) 512 (V (rgt c)) ∗ tok c (.inl (0, k)) ∗ tok (rgt c) (.inl (2, k))
    ∗ atPos ER (gcell c (.inl (0, k))) 0 ∅ 0)

/-- What sending chunk `k` left needs besides the chunk. -/
def needL (c : Dev nD) (k : Fin 8) : sProp 𝕄 :=
  iprop(oP (lft c) (4096 * c.val + 512 * k.val) 512 (V (lft c)) ∗ tok c (.inl (1, k)) ∗ tok (lft c) (.inl (3, k))
    ∗ atPos ER (gcell c (.inl (1, k))) 0 ∅ 0)

/-- Sending right. -/
theorem sendR_it (c : Dev nD) (k : Fin 8) (O : CellTallies nD τ sig Unit) :
    It X K c iprop(cP c qR k (cast X c) ∗ needR V c k ∗ debt c (O + dR c k)) (send c (rgt c) k cc0_scratch3 cc0_scratch5)
      iprop(pend c (.inl (0, k)) ∗ debt c O) := by
  refine It.conseq ?_ (send_cell X K c (rgt c) (.inl (0, k)) (.inl (2, k)) (at_sendR k) (at_recvL k) (src := cK k) (dst := oK c k)
    (q := qR) (fs := cast X c) (fd := V (rgt c)) rfl rfl ?_ ?_ O) .rfl
  · unfold cP needR oP dR
    rw [cK_set, oK_set]
    iintro ⟨H1, ⟨H2, H3, H4, H5⟩, H6⟩; iframe; iexact H6
  · rw [cK_set]; exact .rfl
  · rw [pointsTo_congr (write_oK X c (rgt c) k (V (rgt c))), oK_set]
    show _ ⊢ oP (rgt c) (4096 * (lft (rgt c)).val + 512 * k.val) 512 (all X)
    rw [lft_rgt]; exact .rfl

/-- Sending left. -/
theorem sendL_it (c : Dev nD) (k : Fin 8) (O : CellTallies nD τ sig Unit) :
    It X K c iprop(cP c qL k (cast X c) ∗ needL V c k ∗ debt c (O + dL c k)) (send c (lft c) k cc0_scratch4 cc0_scratch6)
      iprop(pend c (.inl (1, k)) ∗ debt c O) := by
  refine It.conseq ?_ (send_cell X K c (lft c) (.inl (1, k)) (.inl (3, k)) (at_sendL k) (at_recvR k) (src := cK k) (dst := oK c k)
    (q := qL) (fs := cast X c) (fd := V (lft c)) rfl rfl ?_ ?_ O) .rfl
  · unfold cP needL oP dL
    rw [cK_set, oK_set]
    iintro ⟨H1, ⟨H2, H3, H4, H5⟩, H6⟩; iframe; iexact H6
  · rw [cK_set]; exact .rfl
  · rw [pointsTo_congr (write_oK X c (lft c) k (V (lft c))), oK_set]
    show _ ⊢ oP (lft c) (4096 * (rgt (lft c)).val + 512 * k.val) 512 (all X)
    rw [rgt_lft]; exact .rfl

/-- What passing a half block right needs besides it. -/
def needP (c : Dev nD) : sProp 𝕄 :=
  iprop(oP (rgt c) (4096 * (lft c).val) 2048 (V (rgt c)) ∗ tok c (.inr (0, 0)) ∗ tok (rgt c) (.inr (1, 0))
    ∗ atPos ER (gcell c (.inr (0, 0))) 0 ∅ 0)

/-- What passing a half block left needs besides it. -/
def needQ (c : Dev nD) : sProp 𝕄 :=
  iprop(oP (lft c) (4096 * (rgt c).val + 2048) 2048 (V (lft c)) ∗ tok c (.inr (0, 1)) ∗ tok (lft c) (.inr (1, 1))
    ∗ atPos ER (gcell c (.inr (0, 1))) 0 ∅ 0)

/-- Across from the right neighbour is the left one. -/
theorem opp_rgt (c : Dev nD) : opp (rgt c) = lft c := by revert c; decide
/-- Across from the left neighbour is the right one. -/
theorem opp_lft (c : Dev nD) : opp (lft c) = rgt c := by revert c; decide

/-- Passing right. -/
theorem passR_it (c : Dev nD) (O : CellTallies nD τ sig Unit) :
    It X K c iprop(oP c (4096 * (lft c).val) 2048 (all X) ∗ needP V c ∗ debt c (O + eR c)) (passR c (rgt c))
      iprop(pend c (.inr (0, 0)) ∗ debt c O) := by
  refine It.conseq ?_ (send_cell X K c (rgt c) (.inr (0, 0)) (.inr (1, 0)) (at_gone 0) (at_come 0) (src := oR c) (dst := oR c)
    (q := fullShare) (fs := all X) (fd := V (rgt c)) rfl rfl ?_ ?_ O) .rfl
  · unfold needP oP eR
    rw [oR_set]
    iintro ⟨H1, ⟨H2, H3, H4, H5⟩, H6⟩; iframe; iexact H6
  · rw [oR_set]; exact .rfl
  · rw [pointsTo_congr (g := all X) (write_same (oR c).view (V (rgt c)) (all X)), oR_set]
    show _ ⊢ oP (rgt c) (4096 * (opp (rgt c)).val) 2048 (all X)
    rw [opp_rgt]; exact .rfl

/-- Passing left. -/
theorem passL_it (c : Dev nD) (O : CellTallies nD τ sig Unit) :
    It X K c iprop(oP c (4096 * (rgt c).val + 2048) 2048 (all X) ∗ needQ V c ∗ debt c (O + eL c)) (passL c (lft c))
      iprop(pend c (.inr (0, 1)) ∗ debt c O) := by
  refine It.conseq ?_ (send_cell X K c (lft c) (.inr (0, 1)) (.inr (1, 1)) (at_gone 1) (at_come 1) (src := oL c) (dst := oL c)
    (q := fullShare) (fs := all X) (fd := V (lft c)) rfl rfl ?_ ?_ O) .rfl
  · unfold needQ oP eL
    rw [oL_set]
    iintro ⟨H1, ⟨H2, H3, H4, H5⟩, H6⟩; iframe; iexact H6
  · rw [oL_set]; exact .rfl
  · rw [pointsTo_congr (g := all X) (write_same (oL c).view (V (lft c)) (all X)), oL_set]
    show _ ⊢ oP (lft c) (4096 * (opp (lft c)).val + 2048) 2048 (all X)
    rw [opp_lft]; exact .rfl

/-! ## Waiting -/

/-- The wait for a cell, as an item. -/
theorem wait_it (c : Dev nD) (x : Cell) {n : ℕ} (hx : lvOf (some x) ≤ n) (O : CellTallies nD τ sig Unit) (hO : Hi n O) {sm : DmaSem sig} (hs : sm = semOf x)
    {κ' : Kind} {sp sp' : Space} {s s' : Shape} {e e' : EltTy} {src : Memref sig .tc sp' s' e'} {dst : Memref sig κ' sp s e}
    {hsrc : src.view.WordExact} {hdst : dst.view.WordExact} (hN : dst.view.dmaCredit = amt x) :
    It X K c iprop(pend c x ∗ debt c O) (Prog.lift (.waitDma2 sm src dst hsrc hdst)) iprop(got X c x ∗ debt c O) := by
  subst hs
  exact wait_cell X K c x O (mayWait c (semOf x) n (by rw [dec_semOf]; exact hx) O hO) hN

/-- A chunk received from the left. -/
theorem recvL_it (c : Dev nD) (k : Fin 8) (O : CellTallies nD τ sig Unit) (hO : Hi 1 O) :
    It X K c iprop(pend c (.inl (2, k)) ∗ debt c O) (received c k cc0_scratch5) iprop(got X c (.inl (2, k)) ∗ debt c O) :=
  wait_it X K c _ (n := 1) (by simp [lvOf]) O hO (at_recvL k) rfl
/-- A chunk received from the right. -/
theorem recvR_it (c : Dev nD) (k : Fin 8) (O : CellTallies nD τ sig Unit) (hO : Hi 1 O) :
    It X K c iprop(pend c (.inl (3, k)) ∗ debt c O) (received c k cc0_scratch6) iprop(got X c (.inl (3, k)) ∗ debt c O) :=
  wait_it X K c _ (n := 1) (by simp [lvOf]) O hO (at_recvR k) rfl
/-- A chunk sent right. -/
theorem sentR_it (c : Dev nD) (k : Fin 8) :
    It X K c iprop(pend c (.inl (0, k)) ∗ debt c 0) (sent c k cc0_scratch3) iprop(got X c (.inl (0, k)) ∗ debt c 0) :=
  wait_it X K c _ (n := 0) (by simp [lvOf]) 0 (Hi_zero _) (at_sendR k) rfl
/-- A chunk sent left. -/
theorem sentL_it (c : Dev nD) (k : Fin 8) :
    It X K c iprop(pend c (.inl (1, k)) ∗ debt c 0) (sent c k cc0_scratch4) iprop(got X c (.inl (1, k)) ∗ debt c 0) :=
  wait_it X K c _ (n := 0) (by simp [lvOf]) 0 (Hi_zero _) (at_sendL k) rfl
/-- A half block of the first pass gone. -/
theorem goneR_it (c : Dev nD) :
    It X K c iprop(pend c (.inr (0, 0)) ∗ debt c 0) (passedR c cc0_scratch7) iprop(got X c (.inr (0, 0)) ∗ debt c 0) :=
  wait_it X K c _ (n := 0) (by simp [lvOf]) 0 (Hi_zero _) (at_gone 0) rfl
/-- A half block of the first pass arrived. -/
theorem comeR_it (c : Dev nD) :
    It X K c iprop(pend c (.inr (1, 0)) ∗ debt c 0) (passedR c cc0_scratch8) iprop(got X c (.inr (1, 0)) ∗ debt c 0) :=
  wait_it X K c _ (n := 2) (by simp [lvOf]) 0 (Hi_zero _) (at_come 0) rfl
/-- A half block of the second pass gone. -/
theorem goneL_it (c : Dev nD) :
    It X K c iprop(pend c (.inr (0, 1)) ∗ debt c 0) (passedL c cc0_scratch7) iprop(got X c (.inr (0, 1)) ∗ debt c 0) :=
  wait_it X K c _ (n := 0) (by simp [lvOf]) 0 (Hi_zero _) (at_gone 1) rfl
/-- A half block of the second pass arrived. -/
theorem comeL_it (c : Dev nD) :
    It X K c iprop(pend c (.inr (1, 1)) ∗ debt c 0) (passedL c cc0_scratch8) iprop(got X c (.inr (1, 1)) ∗ debt c 0) :=
  wait_it X K c _ (n := 2) (by simp [lvOf]) 0 (Hi_zero _) (at_come 1) rfl

/-! ## The device's own block -/

/-- The own copy's semaphore. -/
abbrev ownSem : DmaSem sig := cc0_scratch9.sem

/-- The own copy's credit. -/
def NO : ℕ := (oB 0).view.dmaCredit

/-- It is the same for every block. -/
theorem credit_oB (c : Dev nD) : (oB c).view.dmaCredit = NO := by
  unfold NO View.dmaCredit; rfl

/-- The own copy under way. -/
def owning (c : Dev nD) : sProp 𝕄 :=
  Transfers.Flight EC (c : Thread nD τ) (.dma ownSem) () NO
    iprop(oP c (4096 * c.val) 4096 (all X) ∗ ((c : Thread nD τ).loc cc0_scratch1) ↦[Finset.univ]{qO} cast X c)

/-- The own copy starts. -/
theorem own_it (c : Dev nD) (f : Buf (Elt F) ((c : Thread nD τ).loc main_v1)) :
    It X K c iprop((((c : Thread nD τ).loc cc0_scratch1) ↦[Finset.univ]{qO} cast X c) ∗ oP c (4096 * c.val) 4096 f
        ∗ semVal ((c : Thread nD τ), .dma ownSem) 0) (ownCopy c) (owning X c) := by
  have hset : (cvM).view.set = Finset.univ := View.set_whole _
  unfold It owning ownCopy oP
  rw [← oB_set c]
  iintro ⟨-, Hc, Ho, Hz⟩
  iapply (Transfers.wp_dmaLocal EC 𝒱₀ (c : Thread nD τ) none () NO (src := cvM) (dst := oB c) (sm := .dma ownSem) (q := qO) (fs := cast X c) (credit_oB c) (View.dmaCredit_pos _ (by decide)) (Finset.Subset.refl _)) $$ [Hc Ho Hz]
  · isplitl [Hc]; · rw [hset]; iexact Hc
    isplitl [Ho]; · iexact Ho
    iexact Hz
  iintro Hf
  rw [wp_ret]; imodintro
  rw [hset, ← (show (((oB c).view.loc (c : Thread nD τ) ↦[(oB c).view.set]{fullShare}
      ((oB c).view.write (Elt F) f (ReadAs.same.apply ((cvM).view.read (Elt F) (cast X c))) Finset.univ)) : sProp 𝕄)
    = ((oB c).view.loc (c : Thread nD τ) ↦[(oB c).view.set]{fullShare} all X) from pointsTo_congr (write_oB X c f))]
  iexact Hf

/-- The own copy is waited for. -/
theorem owned_it (c : Dev nD) :
    It X K c iprop(owning X c ∗ debt c 0) (ownDone c)
      iprop(((oP c (4096 * c.val) 4096 (all X) ∗ ((c : Thread nD τ).loc cc0_scratch1) ↦[Finset.univ]{qO} cast X c)
        ∗ semVal ((c : Thread nD τ), .dma ownSem) 0) ∗ debt c 0) := by
  unfold It owning ownDone debt
  iintro ⟨-, Hf, %W, HO⟩
  iapply (Transfers.wp_waitLocalO EC 𝒱₀ (c : Thread nD τ) none () (dstw := oB c) (N := NO) (credit_oB c)) $$ [Hf HO]
  · isplitl [Hf]; · iexact Hf
    isplitl [HO]; · iexact HO
    rw [MayWait_zero]; iempintro
  iintro ⟨HD, Hz, HO⟩
  rw [wp_ret]; imodintro
  isplitl [HD Hz]
  · isplitl [HD]; · iexact HD
    iexact Hz
  iexists _; iexact HO

end Cert.KernelIdeal.Gather

end
-- ==== Proof.Body.lean ====
/-
  The whole text of one device, from what the launch hands it to what it leaves.
-/
module

public import proofs.«01_k».proof.Proof.Items

@[expose] public section

noncomputable section

namespace Cert.KernelIdeal.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Families -/

/-- The first four chunks. -/
abbrev lo (k : Fin 4) : Fin 8 := k.castLE (by decide)
/-- The last four chunks. -/
abbrev hi (k : Fin 4) : Fin 8 := k.natAdd 4

omit [FloatOps F] in
/-- Eight are four and four. -/
theorem split44 (Φ : Fin 8 → sProp 𝕄) : bigSep Finset.univ Φ = iprop((bigSep Finset.univ fun k : Fin 4 => Φ (lo k)) ∗ bigSep Finset.univ fun k : Fin 4 => Φ (hi k)) :=
  (bigSep_univ_equiv (finSumFinEquiv (m := 4) (n := 4)) Φ).trans (bigSep_univ_sum _)

omit [FloatOps F] in
/-- Eight are seven and the last. -/
theorem split71 (Φ : Fin 8 → sProp 𝕄) : bigSep Finset.univ Φ = iprop((bigSep Finset.univ fun k : Fin 7 => Φ k.castSucc) ∗ Φ 7) := by
  rw [bigSep_univ_equiv (finSumFinEquiv (m := 7) (n := 1)) Φ, bigSep_univ_sum, show (Finset.univ : Finset (Fin 1)) = {0} from rfl, bigSep_singleton]
  rfl

omit [FloatOps F] in
/-- Four of them. -/
theorem split4 (Ψ : Fin 4 → sProp 𝕄) : bigSep Finset.univ Ψ = iprop(Ψ 0 ∗ Ψ 1 ∗ Ψ 2 ∗ Ψ 3) := by
  rw [show (Finset.univ : Finset (Fin 4)) = insert 0 (insert 1 (insert 2 {3})) from by decide]
  refine (BI.bigSep_insert (by decide)).trans (congrArg (BI.sep _) ?_)
  refine (BI.bigSep_insert (by decide)).trans (congrArg (BI.sep _) ?_)
  refine (BI.bigSep_insert (by decide)).trans (congrArg (BI.sep _) ?_)
  exact bigSep_singleton

omit [FloatOps F] in
/-- Two of them. -/
theorem split2 (Ψ : Fin 2 → sProp 𝕄) : bigSep Finset.univ Ψ = iprop(Ψ 0 ∗ Ψ 1) := by
  rw [show (Finset.univ : Finset (Fin 2)) = insert 0 {1} from by decide]
  exact (BI.bigSep_insert (by decide)).trans (congrArg (BI.sep _) bigSep_singleton)

omit [FloatOps F] in
/-- The cells in their eight groups. -/
theorem splitCells (Ψ : Cell → sProp 𝕄) : bigSep Finset.univ Ψ
    = iprop(((bigSep Finset.univ fun k : Fin 8 => Ψ (.inl (0, k))) ∗ (bigSep Finset.univ fun k : Fin 8 => Ψ (.inl (1, k)))
        ∗ (bigSep Finset.univ fun k : Fin 8 => Ψ (.inl (2, k))) ∗ bigSep Finset.univ fun k : Fin 8 => Ψ (.inl (3, k)))
      ∗ (Ψ (.inr (0, 0)) ∗ Ψ (.inr (0, 1))) ∗ Ψ (.inr (1, 0)) ∗ Ψ (.inr (1, 1))) := by
  rw [bigSep_univ_sum, bigSep_univ_prod, bigSep_univ_prod, split4, split2, split2, split2]
  rfl

/-! ## Rows joined -/

/-- Row sets of equal size one after the other. -/
theorem rows_chunks (R a b n : ℕ) : rows R a (b * n) = Finset.univ.biUnion fun k : Fin n => rows R (a + b * k.val) b := by
  ext i
  rw [mem_rows, Finset.mem_biUnion]
  constructor
  · rintro ⟨h1, h2⟩
    have hb : 0 < b := Nat.pos_of_ne_zero fun h => by subst h; omega
    have hlt : ((i 0).val - a) / b < n := Nat.div_lt_of_lt_mul (by omega)
    refine ⟨⟨((i 0).val - a) / b, hlt⟩, Finset.mem_univ _, mem_rows.mpr ?_⟩
    have := Nat.div_add_mod ((i 0).val - a) b
    have := Nat.mod_lt ((i 0).val - a) hb
    show a + b * (((i 0).val - a) / b) ≤ _ ∧ _ < a + b * (((i 0).val - a) / b) + b
    omega
  · rintro ⟨k, -, hk⟩
    rw [mem_rows] at hk
    have : b * (k.val + 1) ≤ b * n := Nat.mul_le_mul_left b k.isLt
    rw [Nat.mul_add, Nat.mul_one] at this
    omega

/-- They do not meet. -/
theorem rows_apart (R a b n : ℕ) (k k' : Fin n) (h : k ≠ k') : Disjoint (rows R (a + b * k.val) b) (rows R (a + b * k'.val) b) := by
  refine rows_disjoint ?_
  rcases Nat.lt_or_gt_of_ne (fun e => h (Fin.ext e)) with h | h
  · left; have := Nat.mul_le_mul_left b (Nat.succ_le_of_lt h); rw [Nat.succ_eq_add_one, Nat.mul_add, Nat.mul_one] at this; omega
  · right; have := Nat.mul_le_mul_left b (Nat.succ_le_of_lt h); rw [Nat.succ_eq_add_one, Nat.mul_add, Nat.mul_one] at this; omega

omit [FloatOps F] in
/-- Rows of the gathered array, in equal pieces. -/
theorem oP_chunks (d : Dev nD) (a b n : ℕ) (f : Buf (Elt F) ((d : Thread nD τ).loc main_v1)) :
    oP (F := F) d a (b * n) f = bigSep Finset.univ fun k : Fin n => oP d (a + b * k.val) b f := by
  unfold oP
  rw [rows_chunks]
  exact pointsTo_biUnion _ _ fun k _ k' _ h => rows_apart 16384 a b n k k' h

omit [FloatOps F] in
/-- Eight chunks. -/
theorem oP_eight (d : Dev nD) (a : ℕ) (f : Buf (Elt F) ((d : Thread nD τ).loc main_v1)) :
    oP (F := F) d a 4096 f = bigSep Finset.univ fun k : Fin 8 => oP d (a + 512 * k.val) 512 f := oP_chunks d a 512 8 f

omit [FloatOps F] in
/-- The first four chunks. -/
theorem oP_lo (d : Dev nD) (a : ℕ) (f : Buf (Elt F) ((d : Thread nD τ).loc main_v1)) :
    (bigSep Finset.univ fun k : Fin 4 => oP (F := F) d (a + 512 * (lo k).val) 512 f) = oP d a 2048 f := (oP_chunks d a 512 4 f).symm

omit [FloatOps F] in
/-- The last four chunks. -/
theorem oP_hi (d : Dev nD) (a : ℕ) (f : Buf (Elt F) ((d : Thread nD τ).loc main_v1)) :
    (bigSep Finset.univ fun k : Fin 4 => oP (F := F) d (a + 512 * (hi k).val) 512 f) = oP d (a + 2048) 2048 f := by
  rw [show (2048 : ℕ) = 512 * 4 from rfl, oP_chunks d (a + 512 * 4) 512 4 f]
  refine bigSep_congr fun k _ => ?_
  rw [show a + 512 * (hi k).val = a + 512 * 4 + 512 * k.val from by show a + 512 * (4 + k.val) = _; omega]

omit [FloatOps F] in
/-- Two halves of a block. -/
theorem oP_halves (d : Dev nD) (a : ℕ) (f : Buf (Elt F) ((d : Thread nD τ).loc main_v1)) :
    oP (F := F) d a 4096 f = iprop(oP d a 2048 f ∗ oP d (a + 2048) 2048 f) := by
  rw [oP_eight, split44, oP_lo, oP_hi]

omit [FloatOps F] in
/-- The array in its four blocks, seen from device `c`. -/
theorem oP_blocks (d : Dev nD) (c : Dev nD) (f : Buf (Elt F) ((d : Thread nD τ).loc main_v1)) :
    (((d : Thread nD τ).loc main_v1 ↦[Finset.univ]{fullShare} f) : sProp 𝕄)
      = iprop(oP d (4096 * c.val) 4096 f ∗ oP d (4096 * (lft c).val) 4096 f ∗ oP d (4096 * (rgt c).val) 4096 f ∗ oP d (4096 * (opp c).val) 4096 f) := by
  have h : (((d : Thread nD τ).loc main_v1 ↦[Finset.univ]{fullShare} f) : sProp 𝕄) = oP d 0 (4096 * 4) f := by
    unfold oP; rw [show 4096 * 4 = 16384 from rfl, rows_all]
  have hu : ∀ c : Fin 4, (Finset.univ : Finset (Fin 4)) = insert c (insert (lft c) (insert (rgt c) {opp c})) := by decide
  have hd : ∀ c : Fin 4, c ∉ (insert (lft c) (insert (rgt c) {opp c}) : Finset (Fin 4)) ∧ lft c ∉ (insert (rgt c) {opp c} : Finset (Fin 4)) ∧ rgt c ∉ ({opp c} : Finset (Fin 4)) := by decide
  have hz : ∀ k : Fin 4, oP (F := F) d (0 + 4096 * k.val) 4096 f = oP d (4096 * k.val) 4096 f := fun k => by rw [Nat.zero_add]
  rw [h, oP_chunks d 0 4096 4 f, bigSep_congr (s := Finset.univ) (Φ := fun k : Fin 4 => oP (F := F) d (0 + 4096 * k.val) 4096 f) fun k _ => hz k, hu c]
  refine (BI.bigSep_insert (hd c).1).trans (congrArg (BI.sep _) ?_)
  refine (BI.bigSep_insert (hd c).2.1).trans (congrArg (BI.sep _) ?_)
  exact (BI.bigSep_insert (hd c).2.2).trans (congrArg (BI.sep _) bigSep_singleton)

omit [FloatOps F] in
/-- The cast buffer in its eight chunks. -/
theorem cP_eight (c : Dev nD) (q : PosShare TreeShare) (f : Buf (Elt F) ((c : Thread nD τ).loc cc0_scratch1)) :
    (((c : Thread nD τ).loc cc0_scratch1 ↦[Finset.univ]{q} f) : sProp 𝕄) = bigSep Finset.univ fun k : Fin 8 => cP c q k f := by
  unfold cP
  have h := rows_chunks 4096 0 512 8
  rw [show 512 * 8 = 4096 from rfl, rows_all] at h
  have hz : ∀ k : Fin 8, rows 4096 (0 + 512 * k.val) 512 = rows 4096 (512 * k.val) 512 := fun k => by rw [Nat.zero_add]
  rw [show (Finset.univ : Finset (Idx ((c : Thread nD τ).loc cc0_scratch1))) = Finset.univ.biUnion fun k : Fin 8 => rows 4096 (512 * k.val) 512 from
    h.trans (Finset.biUnion_congr rfl fun k _ => hz k)]
  exact pointsTo_biUnion _ _ fun k _ k' _ hk => by
    have := rows_apart 4096 0 512 8 k k' hk
    rwa [hz, hz] at this

/-! ## The text -/

variable (X : Given F) (K : Dev nD × Cell → ℕ) (V : Init F)

/-- One wait for every index. -/
theorem Tri.each {X : Given F} {K : Dev nD × Cell → ℕ} {c : Dev nD} {n : ℕ} (A B : Fin n → sProp 𝕄) (D : sProp 𝕄) (f : Fin n → Piece F)
    (h : ∀ k : Fin n, It X K c iprop(A k ∗ D) (f k) iprop(B k ∗ D)) :
    Tri X K c iprop(bigSep Finset.univ A ∗ D) (List.ofFn f) iprop(bigSep Finset.univ B ∗ D) := by
  have e : (List.ofFn fun k => [f k]).flatten = List.ofFn f := by
    clear h A B
    induction n with
    | zero => rfl
    | succ n ih => rw [List.ofFn_succ, List.ofFn_succ, List.flatten_cons, ih]; rfl
  rw [← e]
  exact Tri.family A B (fun _ => D) (fun k => [f k]) fun k => Tri.cons iprop(emp) (h k) (sep_emp (PROP := sProp 𝕄)).2
    (Tri.nil (sep_emp (PROP := sProp 𝕄)).1)

/-- Chunk `k` before it is cast and sent. -/
def todo (c : Dev nD) (k : Fin 8) : sProp 𝕄 := iprop(cAny c k ∗ needR V c k ∗ needL V c k)

/-- Chunk `k` after. -/
def done (c : Dev nD) (k : Fin 8) : sProp 𝕄 :=
  iprop(cP c qO k (cast X c) ∗ pend c (.inl (0, k)) ∗ pend c (.inl (1, k)))

/-- Cast, send right, send left. -/
theorem ship_tri (c : Dev nD) (k : Fin 8) :
    Tri X K c iprop(todo V c k ∗ loaded X c (slot k) k ∗ debt c (OC c k.val)) (ship c (fun _ => rgt c) (fun _ => lft c) k)
      iprop(done X c k ∗ idle X c (slot k) ∗ debt c (OC c (k.val + 1))) := by
  unfold todo
  refine Tri.cons iprop(needR V c k ∗ needL V c k ∗ debt c (OC c k.val)) (convert_it X K c k) ?_ ?_
  · iintro ⟨⟨H1, H2, H3⟩, H4, H5⟩; iframe
  refine Tri.cons iprop(cP c qL k (cast X c) ∗ cP c qO k (cast X c) ∗ idle X c (slot k) ∗ needL V c k) (sendR_it X K V c k (OC c (k.val + 1) + dL c k)) ?_ ?_
  · rw [← OC_step]
    iintro ⟨⟨H1, H2⟩, H3, H4, H5⟩
    ihave H := (cP_shares c k (cast X c)).1 $$ H2
    icases H with ⟨Ha, Hb, Hc⟩
    iframe
  refine Tri.cons iprop(cP c qO k (cast X c) ∗ idle X c (slot k) ∗ pend c (.inl (0, k))) (sendL_it X K V c k (OC c (k.val + 1))) ?_ (Tri.nil ?_)
  · iintro ⟨⟨H1, H2⟩, H3, H4, H5, H6⟩; iframe
  · unfold done
    iintro ⟨⟨H1, H2⟩, H3, H4, H5⟩; iframe

/-- The slot that is not chunk `k`'s. -/
abbrev other (k : Fin 8) : Fin 2 := ⟨(k.val + 1) % 2, Nat.mod_lt _ (by decide)⟩

/-- Between two chunks: chunk `k` is on its way, the other slot is free. -/
def between (c : Dev nD) (k : Fin 8) : sProp 𝕄 := iprop(busy X c (slot k) k ∗ idle X c (other k) ∗ debt c (OC c k.val))

/-- One chunk of the loop. -/
theorem chunk_tri (c : Dev nD) (k : Fin 7) :
    Tri X K c iprop(todo V c k.castSucc ∗ between X c k.castSucc) (chunk c (fun _ => rgt c) (fun _ => lft c) k)
      iprop(done X c k.castSucc ∗ between X c k.succ) := by
  have e1 : other k.castSucc = slot k.succ := rfl
  have e2 : other k.succ = slot k.castSucc := Fin.ext (by show (k.val + 1 + 1) % 2 = k.val % 2; omega)
  unfold between
  rw [e1, e2]
  refine Tri.cons iprop(todo V c k.castSucc ∗ idle X c (slot k.succ)) (fetched_it X K c k.castSucc _ (Hi_OC c k.castSucc.val)) ?_ ?_
  · iintro ⟨H1, H2, H3, H4⟩; iframe
  refine Tri.cons iprop(todo V c k.castSucc ∗ loaded X c (slot k.castSucc) k.castSucc ∗ debt c (OC c k.castSucc.val)) (fetch_it X K c k.succ) ?_ ?_
  · iintro ⟨⟨H1, H2⟩, H3, H4⟩; iframe
  refine It.conseq ?_ (It.framed (ship_tri X K V c k.castSucc) (busy X c (slot k.succ) k.succ)) ?_
  · iintro ⟨H1, H2, H3, H4⟩; iframe
  · show _ ⊢ iprop(done X c k.castSucc ∗ busy X c (slot k.succ) k.succ ∗ idle X c (slot k.castSucc) ∗ debt c (OC c (k.castSucc.val + 1)))
    iintro ⟨⟨H1, H2, H3⟩, H4⟩; iframe

/-- The eight chunks. -/
theorem chunks_tri (c : Dev nD) :
    Tri X K c iprop((bigSep Finset.univ fun k => todo V c k) ∗ idle X c 0 ∗ idle X c 1 ∗ debt c (OC c 0))
      (fetch 0 :: ((List.ofFn fun k : Fin 7 => chunk c (fun _ => rgt c) (fun _ => lft c) k).flatten ++ (fetched 7 :: ship c (fun _ => rgt c) (fun _ => lft c) 7)))
      iprop((bigSep Finset.univ fun k => done X c k) ∗ idle X c 0 ∗ idle X c 1 ∗ debt c (OP c)) := by
  rw [split71, split71, ← OC_end]
  refine Tri.cons iprop(((bigSep Finset.univ fun k : Fin 7 => todo V c k.castSucc) ∗ todo V c 7) ∗ idle X c 1 ∗ debt c (OC c 0)) (fetch_it X K c 0) ?_ ?_
  · iintro ⟨H1, H2, H3, H4⟩; iframe; iexact H2
  refine Tri.then (todo V c 7) (Tri.family (fun k : Fin 7 => todo V c k.castSucc) (fun k : Fin 7 => done X c k.castSucc) (fun k => between X c k)
    (fun k => chunk c (fun _ => rgt c) (fun _ => lft c) k) fun k => chunk_tri X K V c k) ?_ ?_
  · show iprop(busy X c (slot 0) 0 ∗ _) ⊢ iprop((_ ∗ (busy X c (slot 0) 0 ∗ idle X c 1 ∗ debt c (OC c 0))) ∗ _)
    iintro ⟨H1, ⟨H2, H3⟩, H4, H5⟩; iframe
  show Tri X K c iprop((_ ∗ (busy X c (slot 7) 7 ∗ idle X c 0 ∗ debt c (OC c 7))) ∗ _) _ _
  refine Tri.cons iprop((bigSep Finset.univ fun k : Fin 7 => done X c k.castSucc) ∗ todo V c 7 ∗ idle X c 0) (fetched_it X K c 7 (OC c 7) (Hi_OC c 7)) ?_ ?_
  · iintro ⟨⟨H1, H2, H3, H4⟩, H5⟩; iframe
  refine It.conseq ?_ (It.framed (ship_tri X K V c 7) iprop((bigSep Finset.univ fun k : Fin 7 => done X c k.castSucc) ∗ idle X c 0)) ?_
  · show _ ⊢ iprop((todo V c 7 ∗ loaded X c (slot 7) 7 ∗ debt c (OC c 7)) ∗ _)
    iintro ⟨⟨H1, H2⟩, H3, H4, H5⟩; iframe
  · show iprop((_ ∗ idle X c 1 ∗ debt c (OC c 8)) ∗ _) ⊢ _
    iintro ⟨⟨H1, H2, H3⟩, H4, H5⟩; iframe

/-! ## After the chunks -/

/-- Chunks still to be waited for. -/
abbrev pends (c : Dev nD) (a : Fin 4) {n : ℕ} (g : Fin n → Fin 8) : sProp 𝕄 := bigSep Finset.univ fun k : Fin n => pend c (.inl (a, g k))
/-- Chunks waited for. -/
abbrev gots (c : Dev nD) (a : Fin 4) {n : ℕ} (g : Fin n → Fin 8) : sProp 𝕄 := bigSep Finset.univ fun k : Fin n => got X c (.inl (a, g k))
/-- Their semaphores. -/
abbrev sems (c : Dev nD) (a : Fin 4) {n : ℕ} (g : Fin n → Fin 8) : sProp 𝕄 := bigSep Finset.univ fun k : Fin n => semVal (gcell c (.inl (a, g k))) 0

/-- Chunks from the left, first half. -/
theorem gots_leftLo (c : Dev nD) : gots X c 2 lo = iprop(sems c 2 lo ∗ oP c (4096 * (lft c).val) 2048 (all X)) := by
  refine (bigSep_sep' _ _ _).trans ?_
  rw [← oP_lo]; rfl
/-- Chunks from the left, second half. -/
theorem gots_leftHi (c : Dev nD) : gots X c 2 hi = iprop(sems c 2 hi ∗ oP c (4096 * (lft c).val + 2048) 2048 (all X)) := by
  refine (bigSep_sep' _ _ _).trans ?_
  rw [← oP_hi]; rfl
/-- Chunks from the right. -/
theorem gots_right (c : Dev nD) : gots X c 3 (fun k : Fin 8 => k)
    = iprop(sems c 3 (fun k : Fin 8 => k) ∗ oP c (4096 * (rgt c).val) 2048 (all X) ∗ oP c (4096 * (rgt c).val + 2048) 2048 (all X)) := by
  refine (bigSep_sep' _ _ _).trans ?_
  rw [← oP_halves, oP_eight]; rfl

/-- What the text after the chunks starts from. -/
def restPre (c : Dev nD) : sProp 𝕄 :=
  iprop(oP c (4096 * c.val) 4096 (V c) ∗ semVal ((c : Thread nD τ), .dma ownSem) 0
    ∗ pends c 2 (fun k : Fin 8 => k) ∗ pends c 3 (fun k : Fin 8 => k) ∗ needP V c ∗ needQ V c ∗ pend c (.inr (1, 0)) ∗ pend c (.inr (1, 1)))

/-- What is left of it. -/
def restPost (c : Dev nD) : sProp 𝕄 :=
  iprop(((oP c (4096 * c.val) 4096 (all X) ∗ ((c : Thread nD τ).loc cc0_scratch1) ↦[Finset.univ]{qO} cast X c)
        ∗ semVal ((c : Thread nD τ), .dma ownSem) 0)
    ∗ sems c 2 lo ∗ gots X c 2 hi ∗ (sems c 3 (fun k : Fin 8 => k) ∗ oP c (4096 * (rgt c).val) 2048 (all X))
    ∗ got X c (.inr (0, 0)) ∗ got X c (.inr (1, 0)) ∗ got X c (.inr (0, 1)) ∗ got X c (.inr (1, 1))
    ∗ bigSep Finset.univ fun k : Fin 8 => iprop(got X c (.inl (0, k)) ∗ got X c (.inl (1, k))))

/-- Everything after the chunks. -/
theorem rest_tri (c : Dev nD) :
    Tri X K c iprop((bigSep Finset.univ fun k => done X c k) ∗ restPre V c ∗ debt c (OP c)) (rest c (rgt c) (lft c))
      iprop(restPost X c ∗ debt c 0) := by
  have hdone : (bigSep Finset.univ fun k => done X c k)
      = iprop((((c : Thread nD τ).loc cc0_scratch1) ↦[Finset.univ]{qO} cast X c) ∗ bigSep Finset.univ fun k : Fin 8 => iprop(pend c (.inl (0, k)) ∗ pend c (.inl (1, k)))) := by
    rw [cP_eight]; exact bigSep_sep' _ _ _
  have hleft : (pends (F := F) c 2 (fun k : Fin 8 => k)) = iprop(pends c 2 lo ∗ pends c 2 hi) := split44 _
  have hz : (0 : CellTallies nD τ sig Unit) + eL c = eL c := zero_add _
  unfold restPre restPost
  rw [hdone, hleft]
  -- the own copy
  refine Tri.cons iprop((bigSep Finset.univ fun k : Fin 8 => iprop(pend c (.inl (0, k)) ∗ pend c (.inl (1, k))))
      ∗ pends c 2 lo ∗ pends c 2 hi ∗ pends c 3 (fun k : Fin 8 => k) ∗ needP V c ∗ needQ V c ∗ pend c (.inr (1, 0)) ∗ pend c (.inr (1, 1)) ∗ debt c (OP c))
    (own_it X K c (V c)) ?_ ?_
  · iintro ⟨⟨H1, H2⟩, ⟨H3, H4, ⟨H5, H6⟩, H7, H8, H9, Ha, Hb⟩, Hc⟩; iframe
  -- the first half from the left
  refine Tri.then iprop(owning X c ∗ (bigSep Finset.univ fun k : Fin 8 => iprop(pend c (.inl (0, k)) ∗ pend c (.inl (1, k))))
      ∗ pends c 2 hi ∗ pends c 3 (fun k : Fin 8 => k) ∗ needP V c ∗ needQ V c ∗ pend c (.inr (1, 0)) ∗ pend c (.inr (1, 1)))
    (Tri.each (fun k : Fin 4 => pend c (.inl (2, lo k))) (fun k : Fin 4 => got X c (.inl (2, lo k))) (debt c (OP c)) _
      fun k => recvL_it X K c (lo k) (OP c) (Hi_OP c)) ?_ ?_
  · iintro ⟨H1, H2, H3, H4, H5, H6, H7, H8, H9, Ha⟩; iframe
  -- it is passed on
  rw [show (bigSep Finset.univ fun k : Fin 4 => got X c (.inl (2, lo k))) = _ from gots_leftLo X c]
  refine Tri.cons iprop(sems c 2 lo ∗ owning X c ∗ (bigSep Finset.univ fun k : Fin 8 => iprop(pend c (.inl (0, k)) ∗ pend c (.inl (1, k))))
      ∗ pends c 2 hi ∗ pends c 3 (fun k : Fin 8 => k) ∗ needQ V c ∗ pend c (.inr (1, 0)) ∗ pend c (.inr (1, 1)))
    (passR_it X K V c (eL c)) ?_ ?_
  · unfold OP
    iintro ⟨⟨⟨H1, H2⟩, H3⟩, H4, H5, H6, H7, H8, H9, Ha, Hb⟩; iframe
  -- the second half from the left
  refine Tri.then iprop(pend c (.inr (0, 0)) ∗ sems c 2 lo ∗ owning X c ∗ (bigSep Finset.univ fun k : Fin 8 => iprop(pend c (.inl (0, k)) ∗ pend c (.inl (1, k))))
      ∗ pends c 3 (fun k : Fin 8 => k) ∗ needQ V c ∗ pend c (.inr (1, 0)) ∗ pend c (.inr (1, 1)))
    (Tri.each (fun k : Fin 4 => pend c (.inl (2, hi k))) (fun k : Fin 4 => got X c (.inl (2, hi k))) (debt c (eL c)) _
      fun k => recvL_it X K c (hi k) (eL c) (Hi_eL c)) ?_ ?_
  · iintro ⟨⟨H1, H2⟩, H3, H4, H5, H6, H7, H8, H9, Ha⟩; iframe
  -- everything from the right
  refine Tri.then iprop(gots X c 2 hi ∗ pend c (.inr (0, 0)) ∗ sems c 2 lo ∗ owning X c ∗ (bigSep Finset.univ fun k : Fin 8 => iprop(pend c (.inl (0, k)) ∗ pend c (.inl (1, k))))
      ∗ needQ V c ∗ pend c (.inr (1, 0)) ∗ pend c (.inr (1, 1)))
    (Tri.each (fun k : Fin 8 => pend c (.inl (3, k))) (fun k : Fin 8 => got X c (.inl (3, k))) (debt c (eL c)) _
      fun k => recvR_it X K c k (eL c) (Hi_eL c)) ?_ ?_
  · iintro ⟨⟨H1, H2⟩, H3, H4, H5, H6, H7, H8, H9, Ha⟩; iframe
  -- its second half is passed on
  rw [show (bigSep Finset.univ fun k : Fin 8 => got X c (.inl (3, k))) = _ from gots_right X c]
  refine Tri.cons iprop((sems c 3 (fun k : Fin 8 => k) ∗ oP c (4096 * (rgt c).val) 2048 (all X))
      ∗ gots X c 2 hi ∗ pend c (.inr (0, 0)) ∗ sems c 2 lo ∗ owning X c ∗ (bigSep Finset.univ fun k : Fin 8 => iprop(pend c (.inl (0, k)) ∗ pend c (.inl (1, k))))
      ∗ pend c (.inr (1, 0)) ∗ pend c (.inr (1, 1)))
    (passL_it X K V c 0) ?_ ?_
  · rw [hz]
    iintro ⟨⟨⟨H1, H2, H3⟩, H4⟩, H5, H6, H7, H8, H9, Ha, Hb, Hc⟩; iframe
  -- the four waits for the passes
  refine Tri.cons iprop(pend c (.inr (0, 1)) ∗ (sems c 3 (fun k : Fin 8 => k) ∗ oP c (4096 * (rgt c).val) 2048 (all X))
      ∗ gots X c 2 hi ∗ sems c 2 lo ∗ owning X c ∗ (bigSep Finset.univ fun k : Fin 8 => iprop(pend c (.inl (0, k)) ∗ pend c (.inl (1, k))))
      ∗ pend c (.inr (1, 0)) ∗ pend c (.inr (1, 1)))
    (goneR_it X K c) ?_ ?_
  · iintro ⟨⟨H1, H2⟩, H3, H4, H5, H6, H7, H8, H9, Ha⟩; iframe
  refine Tri.cons iprop(got X c (.inr (0, 0)) ∗ pend c (.inr (0, 1)) ∗ (sems c 3 (fun k : Fin 8 => k) ∗ oP c (4096 * (rgt c).val) 2048 (all X))
      ∗ gots X c 2 hi ∗ sems c 2 lo ∗ owning X c ∗ (bigSep Finset.univ fun k : Fin 8 => iprop(pend c (.inl (0, k)) ∗ pend c (.inl (1, k))))
      ∗ pend c (.inr (1, 1)))
    (comeR_it X K c) ?_ ?_
  · iintro ⟨⟨H1, H2⟩, H3, H4, H5, H6, H7, H8, H9, Ha⟩; iframe
  refine Tri.cons iprop(got X c (.inr (1, 0)) ∗ got X c (.inr (0, 0)) ∗ (sems c 3 (fun k : Fin 8 => k) ∗ oP c (4096 * (rgt c).val) 2048 (all X))
      ∗ gots X c 2 hi ∗ sems c 2 lo ∗ owning X c ∗ (bigSep Finset.univ fun k : Fin 8 => iprop(pend c (.inl (0, k)) ∗ pend c (.inl (1, k))))
      ∗ pend c (.inr (1, 1)))
    (goneL_it X K c) ?_ ?_
  · iintro ⟨⟨H1, H2⟩, H3, H4, H5, H6, H7, H8, H9, Ha⟩; iframe
  refine Tri.cons iprop(got X c (.inr (0, 1)) ∗ got X c (.inr (1, 0)) ∗ got X c (.inr (0, 0)) ∗ (sems c 3 (fun k : Fin 8 => k) ∗ oP c (4096 * (rgt c).val) 2048 (all X))
      ∗ gots X c 2 hi ∗ sems c 2 lo ∗ owning X c ∗ (bigSep Finset.univ fun k : Fin 8 => iprop(pend c (.inl (0, k)) ∗ pend c (.inl (1, k)))))
    (comeL_it X K c) ?_ ?_
  · iintro ⟨⟨H1, H2⟩, H3, H4, H5, H6, H7, H8, H9, Ha⟩; iframe
  -- the own copy has arrived
  refine Tri.cons iprop(got X c (.inr (1, 1)) ∗ got X c (.inr (0, 1)) ∗ got X c (.inr (1, 0)) ∗ got X c (.inr (0, 0)) ∗ (sems c 3 (fun k : Fin 8 => k) ∗ oP c (4096 * (rgt c).val) 2048 (all X))
      ∗ gots X c 2 hi ∗ sems c 2 lo ∗ (bigSep Finset.univ fun k : Fin 8 => iprop(pend c (.inl (0, k)) ∗ pend c (.inl (1, k)))))
    (owned_it X K c) ?_ ?_
  · iintro ⟨⟨H1, H2⟩, H3, H4, H5, H6, H7, H8, H9, Ha⟩; iframe
  -- the chunks sent have gone
  refine It.conseq ?_ (It.framed (Tri.family (fun k : Fin 8 => iprop(pend c (.inl (0, k)) ∗ pend c (.inl (1, k))))
      (fun k : Fin 8 => iprop(got X c (.inl (0, k)) ∗ got X c (.inl (1, k)))) (fun _ => debt c 0)
      (fun k : Fin 8 => [sent c k cc0_scratch3, sent c k cc0_scratch4]) fun k => ?_)
    iprop((((oP c (4096 * c.val) 4096 (all X) ∗ ((c : Thread nD τ).loc cc0_scratch1) ↦[Finset.univ]{qO} cast X c)
        ∗ semVal ((c : Thread nD τ), .dma ownSem) 0))
      ∗ got X c (.inr (1, 1)) ∗ got X c (.inr (0, 1)) ∗ got X c (.inr (1, 0)) ∗ got X c (.inr (0, 0)) ∗ (sems c 3 (fun k : Fin 8 => k) ∗ oP c (4096 * (rgt c).val) 2048 (all X))
      ∗ gots X c 2 hi ∗ sems c 2 lo)) ?_
  · iintro ⟨⟨H1, H2⟩, H3, H4, H5, H6, H7, H8, H9, Ha⟩; iframe
  · refine Tri.cons (pend c (.inl (1, k))) (sentR_it X K c k) ?_ (Tri.cons (got X c (.inl (0, k))) (sentL_it X K c k) ?_ (Tri.nil ?_))
    · iintro ⟨⟨H1, H2⟩, H3⟩; iframe
    · iintro ⟨⟨H1, H2⟩, H3⟩; iframe
    · iintro ⟨⟨H1, H2⟩, H3⟩; iframe
  · iintro ⟨⟨H1, H2⟩, H3, H4, H5, H6, H7, H8, H9, Ha⟩; iframe

/-! ## The whole -/

/-- What a device starts from. -/
def pre (c : Dev nD) : sProp 𝕄 :=
  iprop((bigSep Finset.univ fun k => todo V c k) ∗ (idle X c 0 ∗ idle X c 1) ∗ restPre V c ∗ debt c (OC c 0))

/-- What it leaves. -/
def post (c : Dev nD) : sProp 𝕄 := iprop((idle X c 0 ∗ idle X c 1) ∗ restPost X c ∗ debt c 0)

/-- The text of device `c`. -/
theorem text_tri (c : Dev nD) : Tri X K c (pre X V c) (text c (fun _ => rgt c) (fun _ => lft c) (rgt c) (lft c)) (post X c) := by
  unfold text pre post
  rw [← List.cons_append]
  refine Tri.then (restPre V c) (chunks_tri X K V c) ?_ (It.conseq ?_ (It.framed (rest_tri X K V c) iprop(idle X c 0 ∗ idle X c 1)) ?_)
  · iintro ⟨H1, ⟨H2, H3⟩, H4, H5⟩; iframe
  · iintro ⟨⟨H1, H2, H3, H4⟩, H5⟩; iframe
  · iintro ⟨⟨H1, H2⟩, H3⟩; iframe

/-- The devices named by the text. -/
theorem devR (c : Dev nD) :
    (![⟨k0_dev1 c, k0_dev1_lt c⟩, ⟨k0_dev3 c, k0_dev3_lt c⟩, ⟨k0_dev5 c, k0_dev5_lt c⟩, ⟨k0_dev7 c, k0_dev7_lt c⟩,
      ⟨k0_dev9 c, k0_dev9_lt c⟩, ⟨k0_dev11 c, k0_dev11_lt c⟩, ⟨k0_dev13 c, k0_dev13_lt c⟩, ⟨k0_dev15 c, k0_dev15_lt c⟩] : Fin 8 → Dev nD)
      = fun _ => rgt c := by
  revert c; decide +kernel
/-- The devices to the left. -/
theorem devL (c : Dev nD) :
    (![⟨k0_dev2 c, k0_dev2_lt c⟩, ⟨k0_dev4 c, k0_dev4_lt c⟩, ⟨k0_dev6 c, k0_dev6_lt c⟩, ⟨k0_dev8 c, k0_dev8_lt c⟩,
      ⟨k0_dev10 c, k0_dev10_lt c⟩, ⟨k0_dev12 c, k0_dev12_lt c⟩, ⟨k0_dev14 c, k0_dev14_lt c⟩, ⟨k0_dev16 c, k0_dev16_lt c⟩] : Fin 8 → Dev nD)
      = fun _ => lft c := by
  revert c; decide +kernel
/-- The device passed to on the right. -/
theorem devP (c : Dev nD) : (⟨k0_dev17 c, k0_dev17_lt c⟩ : Dev nD) = rgt c := by revert c; decide +kernel
/-- The device passed to on the left. -/
theorem devQ (c : Dev nD) : (⟨k0_dev18 c, k0_dev18_lt c⟩ : Dev nD) = lft c := by revert c; decide +kernel

set_option maxRecDepth 65536 in
/-- The printed body on device `c`. -/
theorem body_it (c : Dev nD) (t : Fin cfg0.N) : It X K c (pre X V c) (bodyAt0 t) (post X c) := by
  have h : iprop(ctx X K ∗ pre X V c) ⊢ wp frame (wpE (defs₀ (F := F)) 𝒱₀ (c : Thread nD τ) none) Set.univ
      (Pipeline.chain (text c (fun _ => rgt c) (fun _ => lft c) (rgt c) (lft c))) (fun _ => post X c) := text_tri X K V c
  unfold It
  rw [bodyAt0_eq, wp_bind]
  unfold Prog.lift
  rw [wp_deviceId, wp_ret]
  iintro H
  imodintro
  rw [devR, devL, devP, devQ]
  iapply h
  iexact H

end Cert.KernelIdeal.Gather

end
-- ==== Proof.Ends.lean ====
/-
  What a device holds as the kernel starts and as it ends, against the buffers and semaphores the launch deals
  it and takes back.
-/
module

public import proofs.«01_k».proof.Proof.Body
public import proofs.«01_k».proof.Proof.Gen.KernelIdeal.Launch
public import Idealize.ShloMosaic.Lib.Pipeline.Launch
public import Idealize.ShloMosaic.Lib.Pipeline.Kit

@[expose] public section

noncomputable section

namespace Cert.KernelIdeal.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The kernel's own semaphores -/

/-- Every semaphore of the kernel. -/
def osem : Fin 39 → SemLoc sig := fun k => .dma (show DmaSem sig from k)

/-- They are scoped and pairwise apart. -/
theorem ownSemFacts : Pipeline.OwnSemFacts cfg0.spec osem := by decide

/-- The semaphores named: a cell's, the two slots', the own block's. -/
def semName : Cell ⊕ Fin 3 → Fin 39
  | .inl x => semOf x
  | .inr j => ![0, 1, 38] j

/-- Every semaphore has one name. -/
theorem semName_bij : Function.Bijective semName := by decide +kernel

omit [FloatOps F] in
/-- Three of them. -/
theorem split3 (Ψ : Fin 3 → sProp 𝕄) : bigSep Finset.univ Ψ = iprop(Ψ 0 ∗ Ψ 1 ∗ Ψ 2) := by
  rw [show (Finset.univ : Finset (Fin 3)) = insert 0 (insert 1 {2}) from by decide]
  refine (BI.bigSep_insert (by decide)).trans (congrArg (BI.sep _) ?_)
  refine (BI.bigSep_insert (by decide)).trans (congrArg (BI.sep _) ?_)
  exact bigSep_singleton

omit [FloatOps F] in
/-- A device's semaphores by their names. -/
theorem ownSems_eq (c : Dev nD) : (Pipeline.ownSems0 osem c : sProp 𝕄)
    = iprop((bigSep Finset.univ fun x : Cell => semVal (gcell c x) 0)
        ∗ semVal ((c : Thread nD τ), .dma (fetchSem 0)) 0 ∗ semVal ((c : Thread nD τ), .dma (fetchSem 1)) 0
        ∗ semVal ((c : Thread nD τ), .dma ownSem) 0) := by
  unfold Pipeline.ownSems0
  rw [bigSep_univ_equiv (Equiv.ofBijective semName semName_bij), bigSep_univ_sum, split3]
  rfl

/-! ## The two slots -/

/-- A slot's elements. -/
theorem mem_slot (b : Fin 2) (i : S2x512x1024.Idx) : i ∈ (sB b).view.set ↔ (i 0).val = b.val := by
  have h1 : (sB b).view.set = ((stM).view.slice (rSlot b)).set := View.set_reshape ((stM).view.slice (rSlot b)) _
  have h2 : ((stM).view.slice (rSlot b)).set = (rSlot b).set := by
    rw [View.set_slice]; exact Finset.map_refl
  rw [h1, h2, Rect.mem_set_unit]
  have h1 : (i 1).val < 512 := (i 1).isLt
  have h2 : (i 2).val < 1024 := (i 2).isLt
  constructor
  · intro h
    have := h 0
    change b.val ≤ (i 0).val ∧ (i 0).val < b.val + 1 at this
    omega
  · intro h a
    match a with
    | ⟨0, _⟩ => show b.val ≤ (i 0).val ∧ (i 0).val < b.val + 1; omega
    | ⟨1, _⟩ => show 0 ≤ (i 1).val ∧ (i 1).val < 0 + 512; omega
    | ⟨2, _⟩ => show 0 ≤ (i 2).val ∧ (i 2).val < 0 + 1024; omega

/-- The two slots are apart. -/
theorem slots_apart : Disjoint (sB 0).view.set (sB 1).view.set := by
  rw [Finset.disjoint_left]
  intro i h0 h1
  rw [mem_slot] at h0 h1
  rw [h0] at h1
  exact absurd h1 (by decide)

/-- The two slots are the buffer. -/
theorem slots_all : (sB 0).view.set ∪ (sB 1).view.set = (Finset.univ : Finset S2x512x1024.Idx) := by
  ext i
  rw [Finset.mem_union, mem_slot, mem_slot]
  have h : (i 0).val < 2 := (i 0).isLt
  exact ⟨fun _ => Finset.mem_univ _, fun _ => by
    rcases Nat.lt_or_ge (i 0).val 1 with h0 | h0
    · exact Or.inl (by show (i 0).val = 0; omega)
    · exact Or.inr (by show (i 0).val = 1; omega)⟩

/-- Slot `b`, whatever it holds. -/
def slotAny (c : Dev nD) (b : Fin 2) : sProp 𝕄 :=
  iprop(∃ f, (sB b).view.loc (c : Thread nD τ) ↦[(sB b).view.set]{fullShare} f)

omit [FloatOps F] in
/-- The staging buffer as its two slots. -/
theorem slots_out (c : Dev nD) : iprop(∃ f : Buf (Elt F) ((c : Thread nD τ).loc cc0_scratch0), ((c : Thread nD τ).loc cc0_scratch0) ↦{fullShare} f)
    ⊢ (iprop(slotAny c 0 ∗ slotAny c 1) : sProp 𝕄) := by
  unfold slotAny
  iintro ⟨%f, H⟩
  have h : (((c : Thread nD τ).loc cc0_scratch0) ↦[(Finset.univ : Finset S2x512x1024.Idx)]{fullShare} f : sProp 𝕄)
      ⊢ iprop(((sB 0).view.loc (c : Thread nD τ) ↦[(sB 0).view.set]{fullShare} f) ∗ (sB 1).view.loc (c : Thread nD τ) ↦[(sB 1).view.set]{fullShare} f) := by
    rw [← slots_all]; exact (pointsTo_union slots_apart).1
  ihave H2 := h $$ H
  icases H2 with ⟨H0, H1⟩
  isplitl [H0]
  · iexists f; iexact H0
  · iexists f; iexact H1

omit [FloatOps F] in
/-- The two slots are the staging buffer. -/
theorem slots_in (c : Dev nD) : (iprop(slotAny c 0 ∗ slotAny c 1) : sProp 𝕄)
    ⊢ iprop(∃ f : Buf (Elt F) ((c : Thread nD τ).loc cc0_scratch0), ((c : Thread nD τ).loc cc0_scratch0) ↦{fullShare} f) := by
  unfold slotAny
  iintro ⟨⟨%f, H0⟩, %g, H1⟩
  have h : iprop(((sB 0).view.loc (c : Thread nD τ) ↦[(sB 0).view.set]{fullShare} f) ∗ (sB 1).view.loc (c : Thread nD τ) ↦[(sB 1).view.set]{fullShare} g)
      ⊢ iprop(∃ f : Buf (Elt F) ((c : Thread nD τ).loc cc0_scratch0), (((c : Thread nD τ).loc cc0_scratch0) ↦[(Finset.univ : Finset S2x512x1024.Idx)]{fullShare} f : sProp 𝕄)) := by
    rw [← slots_all]; exact (pointsTo_join slots_apart).trans (exists_intro _)
  iapply h
  isplitl [H0]
  · iexact H0
  · iexact H1

omit [FloatOps F] in
/-- The cast buffer in chunks, whatever it holds. -/
theorem chunks_out (c : Dev nD) : iprop(∃ f : Buf (Elt F) ((c : Thread nD τ).loc cc0_scratch1), ((c : Thread nD τ).loc cc0_scratch1) ↦{fullShare} f)
    ⊢ (bigSep Finset.univ fun k : Fin 8 => cAny c k : sProp 𝕄) := by
  iintro ⟨%f, H⟩
  have h : (((c : Thread nD τ).loc cc0_scratch1) ↦[Finset.univ]{fullShare} f : sProp 𝕄) ⊢ (bigSep Finset.univ fun k : Fin 8 => cAny c k : sProp 𝕄) := by
    rw [cP_eight]
    refine bigSep_mono fun k _ => ?_
    have hk : (cP c fullShare k f : sProp 𝕄) ⊢ iprop(∃ f, cP c fullShare k f) := by
      iintro H
      iexists f
      iexact H
    exact hk
  iapply h
  iexact H

variable (X : Given F) (V : Init F)

/-- The cast buffer whole again, from the shares lent. -/
theorem chunks_in (c : Dev nD) :
    iprop((bigSep Finset.univ fun k : Fin 8 => cP c qR k (cast X c)) ∗ (bigSep Finset.univ fun k : Fin 8 => cP c qL k (cast X c))
        ∗ ((c : Thread nD τ).loc cc0_scratch1) ↦[Finset.univ]{qO} cast X c)
      ⊢ (iprop(∃ f : Buf (Elt F) ((c : Thread nD τ).loc cc0_scratch1), ((c : Thread nD τ).loc cc0_scratch1) ↦{fullShare} f) : sProp 𝕄) := by
  rw [cP_eight, ← bigSep_sep', ← bigSep_sep']
  have h : (bigSep Finset.univ fun k : Fin 8 => iprop(cP c qR k (cast X c) ∗ cP c qL k (cast X c) ∗ cP c qO k (cast X c)))
      ⊢ (((c : Thread nD τ).loc cc0_scratch1) ↦[Finset.univ]{fullShare} cast X c : sProp 𝕄) := by
    rw [cP_eight]
    exact bigSep_mono fun k _ => (cP_shares c k (cast X c)).2
  iintro H
  iexists cast X c
  iapply h
  iexact H

/-! ## The start -/

/-- What slot `b` needs besides itself. -/
def held (c : Dev nD) (b : Fin 2) : sProp 𝕄 :=
  iprop(semVal ((c : Thread nD τ), .dma (fetchSem b)) 0 ∗ ((c : Thread nD τ).loc main_arg0) ↦[Finset.univ]{qS b} X c)

/-- What sending the chunks needs besides them. -/
def needs (c : Dev nD) : sProp 𝕄 := bigSep Finset.univ fun k : Fin 8 => iprop(needR V c k ∗ needL V c k)

/-- What the launch deals a device besides its scoped buffers. -/
def start (c : Dev nD) : sProp 𝕄 :=
  iprop((∃ K, ctx X K) ∗ (held X c 0 ∗ held X c 1) ∗ needs V c ∗ restPre V c)

/-- What the kernel starts from. -/
def Φ₀ (c : Dev nD) : sProp 𝕄 :=
  iprop(∃ K, ctx X K ∗ (bigSep Finset.univ fun k => todo V c k) ∗ (idle X c 0 ∗ idle X c 1) ∗ restPre V c)

/-- What it leaves. -/
def Φ₁ (c : Dev nD) : sProp 𝕄 := iprop((idle X c 0 ∗ idle X c 1) ∗ restPost X c)

/-- A free slot is the slot and what it needs. -/
theorem idle_eq (c : Dev nD) (b : Fin 2) : idle X c b = iprop(slotAny c b ∗ held X c b) := rfl

/-- The chunks to do. -/
theorem todo_eq (c : Dev nD) : (bigSep Finset.univ fun k => todo V c k) = iprop((bigSep Finset.univ fun k : Fin 8 => cAny c k) ∗ needs V c) := by
  unfold needs; rw [← bigSep_sep']; rfl

/-- The launch's deal and the scoped buffers are what the kernel starts from. -/
theorem region_in (c : Dev nD) : iprop(start X V c ∗ Pipeline.scopedRest cfg0.spec c) ⊢ Φ₀ X V c := by
  rw [scopedRest0_eq]
  unfold start Φ₀
  iintro ⟨⟨⟨%K, Hc⟩, ⟨Hh0, Hh1⟩, Hn, Hr⟩, Hs0, Hs1⟩
  iexists K
  rw [todo_eq, idle_eq, idle_eq]
  ihave Hs := (slots_out c) $$ Hs0
  ihave Hk := (chunks_out c) $$ Hs1
  icases Hs with ⟨Ha, Hb⟩
  isplitl [Hc]; · iexact Hc
  isplitl [Hk Hn]
  · isplitl [Hk] <;> iassumption
  isplitr [Hr]
  · isplitl [Ha Hh0]
    · isplitl [Ha] <;> iassumption
    · isplitl [Hb] <;> iassumption
  · iexact Hr

/-! ## The end -/

/-- What the launch reads of a device at the end: its rows as given, its copy of the gathered array. -/
def kept (c : Dev nD) : sProp 𝕄 :=
  iprop((((c : Thread nD τ).loc main_v1) ↦[Finset.univ]{fullShare} all X) ∗ ((c : Thread nD τ).loc main_arg0) ↦[Finset.univ]{fullShare} X c)

/-- The gathered array in the pieces it came in. -/
theorem all_pieces (c : Dev nD) : (((c : Thread nD τ).loc main_v1) ↦[Finset.univ]{fullShare} all X : sProp 𝕄)
    = iprop(oP c (4096 * c.val) 4096 (all X) ∗ (pay X c (.inr (0, 0)) ∗ oP c (4096 * (lft c).val + 2048) 2048 (all X))
        ∗ (oP c (4096 * (rgt c).val) 2048 (all X) ∗ pay X c (.inr (0, 1))) ∗ pay X c (.inr (1, 0)) ∗ pay X c (.inr (1, 1))) := by
  rw [oP_blocks c c, oP_halves c (4096 * (lft c).val), oP_halves c (4096 * (rgt c).val), oP_halves c (4096 * (opp c).val)]
  rfl

/-- What the kernel leaves is the result, the semaphores at zero and the scoped buffers. -/
theorem region_out (c : Dev nD) : Φ₁ X c ⊢ iprop(kept X c ∗ Pipeline.ownSems0 osem c ∗ Pipeline.scopedRest cfg0.spec c) := by
  have hx : iprop((((c : Thread nD τ).loc main_arg0) ↦[Finset.univ]{qS 0} X c) ∗ ((c : Thread nD τ).loc main_arg0) ↦[Finset.univ]{qS 1} X c)
      ⊢ (((c : Thread nD τ).loc main_arg0) ↦[Finset.univ]{fullShare} X c : sProp 𝕄) :=
    (pointsTo_share (PosShare.mem_left_op_right fullShare)).2
  have h2 : (bigSep Finset.univ fun k : Fin 8 => (semVal (gcell c (.inl (2, k))) 0 : sProp 𝕄)) = iprop(sems c 2 lo ∗ sems c 2 hi) := split44 _
  have hg : (bigSep Finset.univ fun k : Fin 8 => iprop(got X c (.inl (0, k)) ∗ got X c (.inl (1, k))))
      = iprop(((bigSep Finset.univ fun k : Fin 8 => semVal (gcell c (.inl (0, k))) 0) ∗ bigSep Finset.univ fun k : Fin 8 => cP c qR k (cast X c))
        ∗ (bigSep Finset.univ fun k : Fin 8 => semVal (gcell c (.inl (1, k))) 0) ∗ bigSep Finset.univ fun k : Fin 8 => cP c qL k (cast X c)) := by
    rw [bigSep_sep']; exact congrArg₂ BI.sep (bigSep_sep' _ _ _) (bigSep_sep' _ _ _)
  unfold Φ₁ restPost kept
  rw [hg, gots_leftHi, idle_eq, idle_eq, scopedRest0_eq, ownSems_eq, splitCells, h2, all_pieces]
  unfold held got
  iintro ⟨⟨⟨Ha, Hs0, Hx0⟩, Hb, Hs1, Hx1⟩, ⟨⟨Ho, Hk⟩, Hs38⟩, H2l, ⟨H2h, HL2⟩, ⟨H3, HR1⟩, ⟨Hq0, HL1⟩, ⟨Hq2, HO1⟩, ⟨Hq1, HR2⟩, ⟨Hq3, HO2⟩, ⟨H0, HkR⟩, H1, HkL⟩
  ihave Hx := hx $$ [Hx0 Hx1]
  · isplitl [Hx0] <;> iassumption
  ihave Hst := (slots_in c) $$ [Ha Hb]
  · isplitl [Ha] <;> iassumption
  ihave Hc := (chunks_in X c) $$ [HkR HkL Hk]
  · isplitl [HkR]; · iexact HkR
    isplitl [HkL] <;> iassumption
  isplitl [Ho HL1 HL2 HR1 HR2 HO1 HO2 Hx]
  · isplitr [Hx]
    · isplitl [Ho]; · iexact Ho
      isplitl [HL1 HL2]
      · isplitl [HL1] <;> iassumption
      isplitl [HR1 HR2]
      · isplitl [HR1] <;> iassumption
      isplitl [HO1] <;> iassumption
    · iexact Hx
  isplitr [Hst Hc]
  · isplitr [Hs0 Hs1 Hs38]
    · isplitl [H0 H1 H2l H2h H3]
      · isplitl [H0]; · iexact H0
        isplitl [H1]; · iexact H1
        isplitl [H2l H2h]
        · isplitl [H2l] <;> iassumption
        iexact H3
      isplitl [Hq0 Hq1]
      · isplitl [Hq0] <;> iassumption
      isplitl [Hq2] <;> iassumption
    · isplitl [Hs0]; · iexact Hs0
      isplitl [Hs1] <;> iassumption
  · isplitl [Hst] <;> iassumption

end Cert.KernelIdeal.Gather

end
-- ==== Proof.Deal.lean ====
/-
  What the launch deals: the cells opened for their one round, the payment tokens and the array's pieces handed
  to the devices that fill them.
-/
module

public import proofs.«01_k».proof.Proof.Ends

@[expose] public section

noncomputable section

namespace Cert.KernelIdeal.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The ghost state at launch -/

/-- The cells, apart on every device. -/
theorem gcell_inj : Function.Injective fun p : Dev nD × Cell => gcell p.1 p.2 := fun p q h => by
  have h1 : p.1 = q.1 := congrArg (fun g : GSem nD τ sig => g.1.1) h
  have h2 : semOf p.2 = semOf q.2 := by
    have := congrArg (fun g : GSem nD τ sig => g.2) h
    exact SemLoc.dma.inj this
  exact Prod.ext h1 (semOf_inj h2)

/-- Every cell of every device. -/
def allCells : Finset (GSem nD τ sig) := Finset.univ.map ⟨fun p : Dev nD × Cell => gcell p.1 p.2, gcell_inj⟩

/-- Every payment of the one round. -/
def allToks : Finset (GSem nD τ sig × ℕ × Unit) :=
  Finset.univ.map ⟨fun p : Dev nD × Cell => (gcell p.1 p.2, 0, ()), fun p q h => gcell_inj (Prod.ext_iff.1 h).1⟩

/-- The ghost state of the cells. -/
def uB : UB := initOf allCells allToks

variable (X : Given F) (V : Init F)

/-- The cells are opened. -/
theorem opened :
    iprop((bigSep Finset.univ fun c : Dev nD => bigSep Finset.univ fun x : Cell => semVal (gcell c x) 0) ∗ BI.own (ER uB))
      ⊢ (iprop(|={Set.univ}=> ∃ K, Ctx X K ∗ (bigSep Finset.univ fun c : Dev nD => bigSep Finset.univ fun x : Cell => atPos ER (gcell c x) 0 ∅ 0)
          ∗ (bigSep Finset.univ fun c : Dev nD => bigSep Finset.univ fun x : Cell => tok c x)) : sProp 𝕄) := by
  classical
  have hc (Φ : GSem nD τ sig → sProp 𝕄) : bigSep allCells Φ = bigSep Finset.univ fun p : Dev nD × Cell => Φ (gcell p.1 p.2) := BI.bigSep_map _
  have ht : (bigSep allToks fun x => (dutyTok ER x.1 x.2.1 x.2.2 : sProp 𝕄)) = bigSep Finset.univ fun p : Dev nD × Cell => tok p.1 p.2 := BI.bigSep_map _
  have hp (Φ : Dev nD → Cell → sProp 𝕄) : (bigSep Finset.univ fun p : Dev nD × Cell => Φ p.1 p.2)
      = bigSep Finset.univ fun c : Dev nD => bigSep Finset.univ fun x : Cell => Φ c x := bigSep_univ_prod _
  have hf := Rounds.fund ER (Rd X) allCells allToks
  rw [hc, hc, hc, ht] at hf
  rw [← hp, ← hp, ← hp]
  iintro ⟨Hv, Hu⟩
  imod hf $$ [Hu] with ⟨Hst, Hr, Hat, Htok⟩
  · unfold uB; iexact Hu
  imod (show iprop((bigSep Finset.univ fun p : Dev nD × Cell => (semVal (gcell p.1 p.2) 0 : sProp 𝕄)) ∗ bigSep Finset.univ fun p : Dev nD × Cell => roundState ER (Rd X) (gcell p.1 p.2) 0)
      ⊢ (|={Set.univ}=> bigSep Finset.univ fun p : Dev nD × Cell => iprop(∃ κ, cellInv ER (Rd X) κ (gcell p.1 p.2))) from by
        rw [← bigSep_sep']
        exact (bigSep_mono fun p _ => (Rounds.body_intro ER (Rd X) (gcell p.1 p.2)).trans inv_alloc).trans (bigSep_fupd _ _)) $$ [Hv Hst] with Hinv
  · isplitl [Hv] <;> iassumption
  imodintro
  ihave HK := (BI.bigSep_exists_pi Finset.univ (fun (p : Dev nD × Cell) (κ : ℕ) => (cellInv ER (Rd X) κ (gcell p.1 p.2) : sProp 𝕄))) $$ Hinv
  icases HK with ⟨%K, HK⟩
  iexists K
  isplitl [HK Hr]
  · unfold Ctx
    rw [bigSep_sep']
    isplitl [HK] <;> iassumption
  isplitl [Hat] <;> iassumption

/-! ## The pieces and the payment tokens -/

/-- What device `d` gives for the transfers to the right of device `c`, its left neighbour. -/
def forR (c d : Dev nD) : sProp 𝕄 :=
  iprop((bigSep Finset.univ fun k : Fin 8 => oP d (4096 * c.val + 512 * k.val) 512 (V d)) ∗ (bigSep Finset.univ fun k : Fin 8 => tok d (.inl (2, k)))
    ∗ oP d (4096 * (lft c).val) 2048 (V d) ∗ tok d (.inr (1, 0)))

/-- What device `d` gives for the transfers to the left of device `c`, its right neighbour. -/
def forL (c d : Dev nD) : sProp 𝕄 :=
  iprop((bigSep Finset.univ fun k : Fin 8 => oP d (4096 * c.val + 512 * k.val) 512 (V d)) ∗ (bigSep Finset.univ fun k : Fin 8 => tok d (.inl (3, k)))
    ∗ oP d (4096 * (rgt c).val + 2048) 2048 (V d) ∗ tok d (.inr (1, 1)))

/-- What it keeps for its own. -/
def keep (d : Dev nD) : sProp 𝕄 :=
  iprop(oP d (4096 * d.val) 4096 (V d) ∗ (bigSep Finset.univ fun k : Fin 8 => tok d (.inl (0, k))) ∗ (bigSep Finset.univ fun k : Fin 8 => tok d (.inl (1, k)))
    ∗ tok d (.inr (0, 0)) ∗ tok d (.inr (0, 1)))

omit [FloatOps F] in
/-- A device's array and tokens: its own, its left neighbour's, its right neighbour's. -/
theorem parts (d : Dev nD) : iprop((((d : Thread nD τ).loc main_v1) ↦[Finset.univ]{fullShare} V d) ∗ bigSep Finset.univ fun x : Cell => tok d x)
    ⊢ (iprop(keep V d ∗ forR V (lft d) d ∗ forL V (rgt d) d) : sProp 𝕄) := by
  rw [oP_blocks d d, splitCells, oP_halves d (4096 * (opp d).val), oP_eight d (4096 * (lft d).val), oP_eight d (4096 * (rgt d).val)]
  unfold keep forR forL
  rw [lft_lft, rgt_rgt]
  iintro ⟨⟨Ho, Hl, Hr, Hp, Hq⟩, ⟨H0, H1, H2, H3⟩, ⟨Ha, Hb⟩, Hc, Hd⟩
  isplitl [Ho H0 H1 Ha Hb]
  · isplitl [Ho]; · iexact Ho
    isplitl [H0]; · iexact H0
    isplitl [H1]; · iexact H1
    isplitl [Ha] <;> iassumption
  isplitl [Hl H2 Hp Hc]
  · isplitl [Hl]; · iexact Hl
    isplitl [H2]; · iexact H2
    isplitl [Hp] <;> iassumption
  · isplitl [Hr]; · iexact Hr
    isplitl [H3]; · iexact H3
    isplitl [Hq] <;> iassumption

/-- The ring's step to the right. -/
def ringR : Dev nD ≃ Dev nD := ⟨rgt, lft, lft_rgt, rgt_lft⟩

omit [FloatOps F] in
/-- Every device's parts, each with the device that uses it. -/
theorem passed : (bigSep Finset.univ fun d : Dev nD => iprop(keep V d ∗ forR V (lft d) d ∗ forL V (rgt d) d))
    = (bigSep Finset.univ fun c : Dev nD => iprop(keep V c ∗ forR V c (rgt c) ∗ forL V c (lft c)) : sProp 𝕄) := by
  have hR : (bigSep Finset.univ fun d : Dev nD => forR V (lft d) d) = (bigSep Finset.univ fun c : Dev nD => forR V c (rgt c) : sProp 𝕄) := by
    rw [bigSep_univ_equiv ringR]
    exact bigSep_congr fun c _ => by show forR V (lft (rgt c)) (rgt c) = _; rw [lft_rgt]
  have hL : (bigSep Finset.univ fun d : Dev nD => forL V (rgt d) d) = (bigSep Finset.univ fun c : Dev nD => forL V c (lft c) : sProp 𝕄) := by
    rw [bigSep_univ_equiv ringR.symm]
    exact bigSep_congr fun c _ => by show forL V (rgt (lft c)) (lft c) = _; rw [rgt_lft]
  rw [bigSep_sep', bigSep_sep', hR, hL, ← bigSep_sep', ← bigSep_sep']

/-! ## The credit -/

/-- What device `c` may wait for: what its neighbours owe it. -/
def due (c : Dev nD) : sProp 𝕄 :=
  iprop((cred (tallyAt (gcell c (.inr (1, 1))) () NH) ∗ cred (tallyAt (gcell c (.inr (1, 0))) () NH))
    ∗ bigSep Finset.univ fun k : Fin 8 => iprop(cred (tallyAt (gcell c (.inl (3, k))) () NK) ∗ cred (tallyAt (gcell c (.inl (2, k))) () NK)))

omit [FloatOps F] in
/-- The launch's credit. -/
theorem due_intro (c : Dev nD) : (Pipeline.launchCred (fun d : Dev nD => OC d 0) c : sProp 𝕄) ⊢ due c := by
  have h : (fun d : Dev nD => OC d 0) = fun d => (eL d + eR d) + ∑ k ∈ (Finset.univ : Finset (Fin 8)), (dL d k + dR d k) := funext fun d => by
    unfold OC OP
    exact congrArg _ (Finset.sum_congr rfl fun k _ => if_pos (Nat.zero_le _))
  rw [h, Pipeline.launchCred_add, Pipeline.launchCred_add, Pipeline.launchCred_sum]
  unfold due
  refine BI.sep_mono (BI.sep_mono ?_ ?_) (bigSep_mono fun k _ => ?_)
  · exact Pipeline.launchCred_tallyAt (.dma (semOf (.inr (1, 1)))) lft rgt lft_rgt rgt_lft () NH c
  · exact Pipeline.launchCred_tallyAt (.dma (semOf (.inr (1, 0)))) rgt lft rgt_lft lft_rgt () NH c
  · rw [Pipeline.launchCred_add]
    refine BI.sep_mono ?_ ?_
    · exact Pipeline.launchCred_tallyAt (.dma (semOf (.inl (3, k)))) lft rgt lft_rgt rgt_lft () NK c
    · exact Pipeline.launchCred_tallyAt (.dma (semOf (.inl (2, k)))) rgt lft rgt_lft lft_rgt () NK c

/-! ## One device's start -/

/-- A device's start out of what it is dealt. -/
theorem start_intro (c : Dev nD) :
    iprop((∃ K, ctx X K) ∗ (((c : Thread nD τ).loc main_arg0) ↦[Finset.univ]{fullShare} X c)
        ∗ (semVal ((c : Thread nD τ), .dma (fetchSem 0)) 0 ∗ semVal ((c : Thread nD τ), .dma (fetchSem 1)) 0 ∗ semVal ((c : Thread nD τ), .dma ownSem) 0)
        ∗ (bigSep Finset.univ fun x : Cell => atPos ER (gcell c x) 0 ∅ 0) ∗ (keep V c ∗ forR V c (rgt c) ∗ forL V c (lft c)) ∗ due c)
      ⊢ start X V c := by
  have hx : (((c : Thread nD τ).loc main_arg0) ↦[Finset.univ]{fullShare} X c : sProp 𝕄)
      ⊢ iprop((((c : Thread nD τ).loc main_arg0) ↦[Finset.univ]{qS 0} X c) ∗ ((c : Thread nD τ).loc main_arg0) ↦[Finset.univ]{qS 1} X c) :=
    (pointsTo_share (PosShare.mem_left_op_right fullShare)).1
  have hn : needs V c = iprop(((bigSep Finset.univ fun k : Fin 8 => oP (rgt c) (4096 * c.val + 512 * k.val) 512 (V (rgt c)))
        ∗ (bigSep Finset.univ fun k : Fin 8 => tok c (.inl (0, k))) ∗ (bigSep Finset.univ fun k : Fin 8 => tok (rgt c) (.inl (2, k)))
        ∗ bigSep Finset.univ fun k : Fin 8 => atPos ER (gcell c (.inl (0, k))) 0 ∅ 0)
      ∗ (bigSep Finset.univ fun k : Fin 8 => oP (lft c) (4096 * c.val + 512 * k.val) 512 (V (lft c)))
        ∗ (bigSep Finset.univ fun k : Fin 8 => tok c (.inl (1, k))) ∗ (bigSep Finset.univ fun k : Fin 8 => tok (lft c) (.inl (3, k)))
        ∗ bigSep Finset.univ fun k : Fin 8 => atPos ER (gcell c (.inl (1, k))) 0 ∅ 0) := by
    unfold needs needR needL
    simp only [bigSep_sep']
  have h2 (a : Fin 4) : (pends c a (fun k : Fin 8 => k) : sProp 𝕄) = iprop((bigSep Finset.univ fun k : Fin 8 => cred (tallyAt (gcell c (.inl (a, k))) () NK))
      ∗ bigSep Finset.univ fun k : Fin 8 => atPos ER (gcell c (.inl (a, k))) 0 ∅ 0) := bigSep_sep' _ _ _
  unfold start held restPre needP needQ
  rw [hn, h2 2, h2 3, splitCells]
  unfold due keep forR forL pend
  rw [bigSep_sep']
  iintro ⟨Hctx, Hx, ⟨Hf0, Hf1, How⟩, ⟨⟨A0, A1, A2, A3⟩, ⟨B0, B1⟩, B2, B3⟩, ⟨⟨Ko, K0, K1, K2, K3⟩, ⟨R0, R1, R2, R3⟩, L0, L1, L2, L3⟩, ⟨D0, D1⟩, D3, D2⟩
  ihave Hx := hx $$ Hx
  icases Hx with ⟨Hx0, Hx1⟩
  isplitl [Hctx]; · iexact Hctx
  isplitl [Hf0 Hx0 Hf1 Hx1]
  · isplitl [Hf0 Hx0]
    · isplitl [Hf0] <;> iassumption
    · isplitl [Hf1] <;> iassumption
  isplitl [R0 K0 R1 A0 L0 K1 L1 A1]
  · isplitl [R0 K0 R1 A0]
    · isplitl [R0]; · iexact R0
      isplitl [K0]; · iexact K0
      isplitl [R1] <;> iassumption
    · isplitl [L0]; · iexact L0
      isplitl [K1]; · iexact K1
      isplitl [L1] <;> iassumption
  isplitl [Ko]; · iexact Ko
  isplitl [How]; · iexact How
  isplitl [D2 A2]
  · isplitl [D2] <;> iassumption
  isplitl [D3 A3]
  · isplitl [D3] <;> iassumption
  isplitl [R2 K2 R3 B0]
  · isplitl [R2]; · iexact R2
    isplitl [K2]; · iexact K2
    isplitl [R3] <;> iassumption
  isplitl [L2 K3 L3 B1]
  · isplitl [L2]; · iexact L2
    isplitl [K3]; · iexact K3
    isplitl [L3] <;> iassumption
  isplitl [D1 B2]
  · isplitl [D1]; · iexact D1
    iexact B2
  · isplitl [D0]; · iexact D0
    iexact B3

/-! ## The deal -/

variable (m : (ℓ : Loc nD τ sig) → Buf (Elt F) ℓ)

/-- The rows given, out of the initial memory. -/
abbrev giv : Given F := fun c => m ((c : Thread nD τ).loc main_arg0)
/-- The gathered array's first contents. -/
abbrev ini : Init F := fun c => m ((c : Thread nD τ).loc main_v1)

omit [FloatOps F] in
/-- A device's unscoped buffers. -/
theorem bufs_eq (c : Dev nD) : (unscopedBufs c (fun b => m ((c : Thread nD τ).loc b)) : sProp 𝕄)
    ⊢ iprop((((c : Thread nD τ).loc main_arg0) ↦[Finset.univ]{fullShare} giv m c) ∗ ((c : Thread nD τ).loc main_v1) ↦[Finset.univ]{fullShare} ini m c) := by
  rw [Pipeline.unscopedBufs_split cfgs 0 (fun w => w.elim0) (fun w => w.elim0) c,
    show Pipeline.unscopedRest (cfgs 0).spec c _ = _ from unscopedRest0_eq c _]
  iintro ⟨-, H⟩
  iexact H

/-- The launch's global step: every device's start. -/
theorem deal :
    iprop((bigSep Finset.univ fun c : Dev nD => Pipeline.ownSems0 osem c)
        ∗ (bigSep Finset.univ fun c : Dev nD => unscopedBufs c (fun b => m ((c : Thread nD τ).loc b)))
        ∗ (bigSep Finset.univ fun c : Dev nD => Pipeline.launchCred (fun d : Dev nD => OC d 0) c) ∗ levAts L lv ∗ BI.own (ER uB))
      ⊢ (iprop(|={Set.univ}=> bigSep Finset.univ fun c : Dev nD => start (giv m) (ini m) c) : sProp 𝕄) := by
  have h1 := bigSep_congr (s := (Finset.univ : Finset (Dev nD))) fun c _ => ownSems_eq (F := F) c
  rw [h1, bigSep_sep']
  iintro ⟨⟨Hv, Hs⟩, Hb, Hcr, #Hlev, Hu⟩
  imod (opened (giv m)) $$ [Hv Hu] with ⟨%K, #HK, Hat, Htok⟩
  · isplitl [Hv] <;> iassumption
  imodintro
  have hb : (bigSep Finset.univ fun c : Dev nD => unscopedBufs c (fun b => m ((c : Thread nD τ).loc b)))
      ⊢ (iprop((bigSep Finset.univ fun c : Dev nD => ((c : Thread nD τ).loc main_arg0) ↦[Finset.univ]{fullShare} giv m c)
        ∗ bigSep Finset.univ fun c : Dev nD => ((c : Thread nD τ).loc main_v1) ↦[Finset.univ]{fullShare} ini m c) : sProp 𝕄) := by
    rw [← bigSep_sep']; exact bigSep_mono fun c _ => bufs_eq m c
  have hd : (bigSep Finset.univ fun c : Dev nD => Pipeline.launchCred (fun d : Dev nD => OC d 0) c)
      ⊢ (bigSep Finset.univ fun c : Dev nD => due c : sProp 𝕄) := bigSep_mono fun c _ => due_intro c
  ihave Hb3 := hb $$ Hb
  ihave Hd := hd $$ Hcr
  icases Hb3 with ⟨Hx, Ho⟩
  have hparts : iprop((bigSep Finset.univ fun c : Dev nD => ((c : Thread nD τ).loc main_v1) ↦[Finset.univ]{fullShare} ini m c)
        ∗ bigSep Finset.univ fun c : Dev nD => bigSep Finset.univ fun x : Cell => tok c x)
      ⊢ (bigSep Finset.univ fun c : Dev nD => iprop(keep (ini m) c ∗ forR (ini m) c (rgt c) ∗ forL (ini m) c (lft c)) : sProp 𝕄) := by
    rw [← bigSep_sep', ← passed]
    exact bigSep_mono fun c _ => parts (ini m) c
  ihave Hp := hparts $$ [Ho Htok]
  · isplitl [Ho] <;> iassumption
  have hctx : iprop(Ctx (giv m) K ∗ levAts L lv) ⊢ (bigSep Finset.univ fun c : Dev nD => iprop(∃ K, ctx (giv m) K) : sProp 𝕄) := by
    refine BI.bigSep_intro_persistent fun c _ => ?_
    have h : iprop(Ctx (giv m) K ∗ levAts L lv) ⊢ (iprop(∃ K, ctx (giv m) K) : sProp 𝕄) := by
      iintro H
      iexists K
      unfold ctx
      iexact H
    exact h
  ihave Hc := hctx $$ []
  · isplitr
    · iexact HK
    · iexact Hlev
  have hall : iprop((bigSep Finset.univ fun c : Dev nD => iprop(∃ K, ctx (giv m) K))
        ∗ (bigSep Finset.univ fun c : Dev nD => ((c : Thread nD τ).loc main_arg0) ↦[Finset.univ]{fullShare} giv m c)
        ∗ (bigSep Finset.univ fun c : Dev nD => iprop(semVal ((c : Thread nD τ), .dma (fetchSem 0)) 0 ∗ semVal ((c : Thread nD τ), .dma (fetchSem 1)) 0 ∗ semVal ((c : Thread nD τ), .dma ownSem) 0))
        ∗ (bigSep Finset.univ fun c : Dev nD => bigSep Finset.univ fun x : Cell => atPos ER (gcell c x) 0 ∅ 0)
        ∗ (bigSep Finset.univ fun c : Dev nD => iprop(keep (ini m) c ∗ forR (ini m) c (rgt c) ∗ forL (ini m) c (lft c)))
        ∗ bigSep Finset.univ fun c : Dev nD => due c)
      ⊢ (bigSep Finset.univ fun c : Dev nD => start (giv m) (ini m) c : sProp 𝕄) := by
    rw [← bigSep_sep', ← bigSep_sep', ← bigSep_sep', ← bigSep_sep', ← bigSep_sep']
    exact bigSep_mono fun c _ => start_intro (giv m) (ini m) c
  iapply hall
  isplitl [Hc]; · iexact Hc
  isplitl [Hx]; · iexact Hx
  isplitl [Hs]; · iexact Hs
  isplitl [Hat]; · iexact Hat
  isplitl [Hp] <;> iassumption

end Cert.KernelIdeal.Gather

end
-- ==== Proof.Run.lean ====
/-
  The run: every device ends with the gathered array, its rows unchanged and every semaphore at zero.
-/
module

public import proofs.«01_k».proof.Proof.Deal

@[expose] public section

noncomputable section

namespace Cert.KernelIdeal.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The kernel's region -/

/-- The region's proof data: no window; the invariant before and after the one grid point; what is owed. -/
def dats (_ : Fin 1) (c : Dev nD) : Dat τ (Elt F) Unit ℕ UU ℕ cfg0 c where
  A w := w.elim0
  after w _ := w.elim0
  Φ t := match t with
    | ⟨0, _⟩ => Φ₀ (giv m) (ini m) c
    | ⟨_ + 1, _⟩ => Φ₁ (giv m) c
  q _ := fullShare
  owed t := match t with
    | ⟨0, _⟩ => OC c 0
    | ⟨_ + 1, _⟩ => 0

set_option maxRecDepth 65536 in
/-- The body's obligation at the one grid point. -/
theorem body_obligation (c : Dev nD) : BodyObligation (dats (F := F) m 0 c) (defs₀ (F := F)) 𝒱₀ () Set.univ := fun t => by
  rw [fin_N0 t]
  have hb (K : Dev nD × Cell → ℕ) := body_it (giv m) K (ini m) c t0_0
  unfold It at hb
  have h0 : (dats m 0 c).owesAt () t0_0.castSucc ⊢ (debt c (OC c 0) : sProp 𝕄) := by
    unfold Dat.owesAt Pipeline.owesWithin debt
    iintro ⟨%W, -, H⟩
    iexists W
    iexact H
  have h1 : (debt c 0 : sProp 𝕄) ⊢ (dats m 0 c).owesAt () t0_0.succ := by
    unfold Dat.owesAt Pipeline.owesWithin debt
    iintro ⟨%W, H⟩
    iexists W
    isplitr
    · ipureintro; exact fun _ _ => Or.inl trivial
    · iexact H
  have hΦ : (dats m 0 c).Φ t0_0.castSucc = Φ₀ (giv m) (ini m) c := rfl
  have hΨ : (dats m 0 c).Φ t0_0.succ = Φ₁ (giv m) c := rfl
  have key (Q : sProp 𝕄) (hQ : post (giv m) c ⊢ Q) :
      iprop(∃ K, ctx (giv m) K ∗ pre (giv m) (ini m) c) ⊢ wp frame (wpE (defs₀ (F := F)) 𝒱₀ (c : Thread nD τ) none) Set.univ (bodyAt0 t0_0) (fun _ => Q) := by
    iintro ⟨%K, H⟩
    have hk : iprop(ctx (giv m) K ∗ pre (giv m) (ini m) c) ⊢ wp frame (wpE (defs₀ (F := F)) 𝒱₀ (c : Thread nD τ) none) Set.univ (bodyAt0 t0_0) (fun _ => Q) :=
      (hb K).trans (wp_mono frame (wpE (defs₀ (F := F)) 𝒱₀ (c : Thread nD τ) none) Set.univ fun _ => hQ)
    iapply hk
    iexact H
  rw [hΦ, hΨ]
  refine BI.Entails.trans ?_ (key _ ?_)
  · have h : iprop(Φ₀ (giv m) (ini m) c ∗ debt c (OC c 0)) ⊢ (iprop(∃ K, ctx (giv m) K ∗ pre (giv m) (ini m) c) : sProp 𝕄) := by
      unfold Φ₀ pre
      iintro ⟨⟨%K, Hc, Ht, Hi, Hr⟩, Ho⟩
      iexists K
      isplitl [Hc]; · iexact Hc
      isplitl [Ht]; · iexact Ht
      isplitl [Hi]; · iexact Hi
      isplitl [Hr] <;> iassumption
    refine BI.Entails.trans (BI.sep_mono_r ((BI.sep_mono_l h0).trans ?_)) h
    have hR (R : sProp 𝕄) : iprop(debt c (OC c 0) ∗ R) ⊢ debt c (OC c 0) := by
      iintro ⟨H, -⟩
      iexact H
    exact hR _
  · show post (giv m) c ⊢ iprop(Φ₁ (giv m) c ∗ (dats m 0 c).owesAt () t0_0.succ ∗ emp)
    unfold post Φ₁
    iintro ⟨Hi, Hr, Ho⟩
    isplitl [Hi Hr]
    · isplitl [Hi] <;> iassumption
    isplitl [Ho]
    · iapply h1; iexact Ho
    · iempintro

/-! ## The launch -/

/-- What device `c`'s final memory holds. -/
def Good (c : Dev nD) (s : MemSt nD τ sig (Elt F)) : Prop :=
  s.mem ((c : Thread nD τ).loc main_v1) = all (giv m) ∧ s.mem ((c : Thread nD τ).loc main_arg0) = m ((c : Thread nD τ).loc main_arg0)

/-- The pinned configuration. -/
abbrev adm : (p : Fin 1) → (pcfgs (F := F) p).Adm := fun p => (cfgs p).toPCfg_adm

/-- What a device's kernel is entered with. -/
def dealt (c : Dev nD) : sProp 𝕄 :=
  iprop((scopedBufs (c : Thread nD τ) ∗ Pipeline.cellsSems0 cfgs 0 c ∗ Pipeline.idleSems0 cfgs cellOf_inj 0 ownSemFacts c)
    ∗ owes (c : Thread nD τ) (OC c 0) ∅ ∗ levAts L lv ∗ Pipeline.cellsGhost cfgs EP 0 c ∗ Pipeline.toksInit cfgs EP 0 c ∗ start (giv m) (ini m) c)

/-- What it ends with. -/
def ended (c : Dev nD) : sProp 𝕄 := iprop(kept (giv m) c ∗ scopedSems0 (c : Thread nD τ))

/-- One device's run of the program. -/
theorem device_run (c : Dev nD) :
    dealt m c ⊢ wp frame (wpE (defs (F := F)) (Variants.lift 𝒱₀) (c : Thread nD τ) none) Set.univ (main (F := F) c)
      (fun _ => Idealize.ShloMosaic.post (liftTc (ended m) BI.emp) (c : Thread nD τ)) := by
  have hss := Pipeline.scopedSems0_split (Ix := Unit) (Val := Elt F) (Name := ℕ) (U := UU) (Lvl := ℕ) cfgs cellOf_inj (0 : Fin 1) winFacts0.to₀ ownSemFacts c
  have hsb := Pipeline.scopedBufs_split (τ := τ) (Ix := Unit) (Val := Elt F) (Name := ℕ) (U := UU) (Lvl := ℕ) cfgs (0 : Fin 1) (fun w => w.1.elim0) (fun w => w.1.elim0) (fun w => w.elim0) c
  have hin : iprop(start (giv m) (ini m) c ∗ Pipeline.prefHeld (pcfgs (F := F) 0).pre c (fun _ => fullShare) (adm (F := F) 0).1 ∗ Pipeline.scopedRest (cfgs 0).spec c)
      ⊢ (dats m 0 c).Φ 0 := by
    show _ ⊢ Φ₀ (giv m) (ini m) c
    have h := region_in (giv m) (ini m) c
    iintro ⟨Hs, -, Hr⟩
    iapply h
    isplitl [Hs]
    · iexact Hs
    · iexact Hr
  have hout : iprop((dats m 0 c).Φ (Fin.last (cfgs 0).N) ∗ Pipeline.cellsSems0 cfgs 0 c ∗ Dat.staging (cfgs 0) c ∗ Pipeline.idleSems0 cfgs cellOf_inj 0 ownSemFacts c)
      ⊢ iprop(kept (giv m) c ∗ scopedSems0 (c : Thread nD τ) ∗ scopedBufs (c : Thread nD τ)) := by
    rw [hss, hsb]
    show iprop(Φ₁ (giv m) c ∗ _) ⊢ _
    have h := region_out (giv m) c
    iintro ⟨HΦ, Hcells, Hst, Hidle⟩
    ihave H := h $$ HΦ
    icases H with ⟨HY, Hos, Hrest⟩
    isplitl [HY]; · iexact HY
    isplitl [Hcells Hos Hidle]
    · isplitr [Hidle]
      · isplitl [Hcells] <;> iassumption
      · iexact Hidle
    isplitl [Hst]
    · iexact Hst
    · iexact Hrest
  have hmain : main (F := F) c = .op (.customCall (Pipeline.entry 0) ()) (fun _ => .ret ⟨⟩) := rfl
  have hend : iprop(Pipeline.EntryPost cfgs (dats m) () 0 c ∗ kept (giv m) c ∗ scopedSems0 (c : Thread nD τ) ∗ scopedBufs (c : Thread nD τ))
      ⊢ wp frame (wpE (defs (F := F)) (Variants.lift 𝒱₀) (c : Thread nD τ) none) Set.univ
        (Prog.ret PUnit.unit : Prog (TpuEff nD τ sig (Elt F) (Pipeline.Sig Λ₀ (Fin 1) fun p => (pcfgs (F := F) p).Adm) .tc) PUnit)
        (fun _ => Idealize.ShloMosaic.post (liftTc (ended m) BI.emp) (c : Thread nD τ)) := by
    rw [wp_ret]
    unfold Idealize.ShloMosaic.post Pipeline.EntryPost Pipeline.PerCore.EntryPost Dat.owesAt Pipeline.owesWithin
    simp only [liftTc_tc, ended]
    iintro ⟨⟨-, %W, -, HW⟩, HY, Hss, -⟩
    imodintro
    isplitr [HW]
    · isplitl [HY] <;> iassumption
    · iexists W; iexact HW
  rw [hmain]
  unfold dealt
  iintro ⟨⟨Hsc, Hcells, Hidle⟩, HL, #Hla, Hg, Ht, HX⟩
  have hw : (levAts L lv : sProp 𝕄) ⊢ Pipeline.cellsWaits cfgs (dats m) () 0 c := Pipeline.cellsWaits_intro cfgs (dats m) () 0 c fun w => w.elim0
  ihave Hw := hw $$ Hla
  iapply (fupd_wp frame (wpE (defs (F := F)) (Variants.lift 𝒱₀) (c : Thread nD τ) none) Set.univ _ _)
  imod (Pipeline.cellsInit_alloc cfgs (dats m) EP cellOf_inj 0 c) $$ [Hcells Hg] with ⟨%κ, -, Hinit⟩
  · isplitl [Hcells] <;> iassumption
  imodintro
  have hbody : Pipeline.BodyObligationLoose (dats m 0 c) (defs₀ (F := F)) 𝒱₀ () Set.univ := (body_obligation m c).loose
  have hent := Pipeline.wp_customCall_entry_frame (pcfgs (F := F)) adm (dats m) () EP κ cellOf_inj (0 : Fin 1) (defs₀ (F := F)) 𝒱₀ (fun _ => fullShare) c Set.univ (fun _ _ => Set.mem_univ _)
      hbody (fun w => w.elim0) none (fun u h => nomatch h) (X := start (giv m) (ini m) c) (Y := kept (giv m) c)
      (R := Pipeline.scopedRest (cfgs 0).spec c) (I := Pipeline.idleSems0 cfgs cellOf_inj 0 ownSemFacts c)
      (Entails.of_eq hsb) hin hout (k := fun _ => (Prog.ret PUnit.unit : Prog (TpuEff nD τ sig (Elt F) (Pipeline.Sig Λ₀ (Fin 1) fun p => (pcfgs (F := F) p).Adm) .tc) PUnit))
      (Q := fun _ => Idealize.ShloMosaic.post (liftTc (ended m) BI.emp) (c : Thread nD τ))
  have key : iprop(Pipeline.EntryPre cfgs (dats m) () EP κ 0 c ∗ Pipeline.prefHeld (pcfgs (F := F) 0).pre c (fun _ => fullShare) (adm (F := F) 0).1
        ∗ start (giv m) (ini m) c ∗ Pipeline.idleSems0 cfgs cellOf_inj 0 ownSemFacts c ∗ scopedBufs (c : Thread nD τ))
      ⊢ iprop(((Pipeline.EntryPost cfgs (dats m) () 0 c ∗ kept (giv m) c ∗ scopedSems0 (c : Thread nD τ) ∗ scopedBufs (c : Thread nD τ))
            -∗ wp frame (wpE (defs (F := F)) (Variants.lift 𝒱₀) (c : Thread nD τ) none) Set.univ
              (Prog.ret PUnit.unit : Prog (TpuEff nD τ sig (Elt F) (Pipeline.Sig Λ₀ (Fin 1) fun p => (pcfgs (F := F) p).Adm) .tc) PUnit)
              (fun _ => Idealize.ShloMosaic.post (liftTc (ended m) BI.emp) (c : Thread nD τ)))
          -∗ wp frame (wpE (defs (F := F)) (Variants.lift 𝒱₀) (c : Thread nD τ) none) Set.univ
              (.op (.customCall (Pipeline.entry 0) ()) (fun _ => .ret PUnit.unit)) (fun _ => Idealize.ShloMosaic.post (liftTc (ended m) BI.emp) (c : Thread nD τ))) := hent
  iapply key $$ [HL Hinit Ht HX Hidle Hsc Hw]
  · isplitl [HL Hinit Ht Hw]
    · unfold Pipeline.EntryPre Pipeline.PerCore.EntryPre Dat.owesAt Pipeline.owesWithin
      isplitr; · iempintro
      isplitl [HL]
      · iexists ∅
        isplitr
        · ipureintro; rw [Finset.coe_empty]; exact Set.empty_subset _
        · iexact HL
      isplitl [Hw]; · iexact Hw
      isplitl [Hinit] <;> iassumption
    isplitr; · iempintro
    isplitl [HX]; · iexact HX
    isplitl [Hidle] <;> iassumption
  iintro H
  iapply hend
  iexact H

/-! ## All devices -/

/-- The ghost state at launch. -/
def u₀ : UU := (initOf (Pipeline.cells cfgs cellOf_inj) (Pipeline.launchToks cfgs cellOf_inj), (uB, 1))

omit [FloatOps F] in
/-- The ghost state as the region's part and the cells' part. -/
theorem ghost_split : (ownU u₀ : sProp 𝕄) ⊢ iprop(BI.own (EP (initOf (Pipeline.cells cfgs cellOf_inj) (Pipeline.launchToks cfgs cellOf_inj))) ∗ BI.own (ER uB)) := by
  have h1 : (ownU u₀ : sProp 𝕄) ⊢ iprop(BI.own (EP (initOf (Pipeline.cells cfgs cellOf_inj) (Pipeline.launchToks cfgs cellOf_inj))) ∗ BI.own (embR (uB, (1 : Counters)))) := ownU_pair _ _
  have h2 : (BI.own (embR (uB, (1 : Counters))) : sProp 𝕄) ⊢ iprop(BI.own (ER uB) ∗ BI.own (((Emb.inr : Emb Counters (UB × Counters)).trans embR) 1)) :=
    own_pair_emb (embR : Emb (UB × Counters) 𝕄) uB (1 : Counters)
  iintro H
  ihave H := h1 $$ H
  icases H with ⟨H1, H⟩
  ihave H := h2 $$ H
  icases H with ⟨H2, -⟩
  isplitl [H1] <;> iassumption

omit [FloatOps F] in
/-- The levels of the cells of every device. -/
theorem levels_set : (bigSep Finset.univ fun c : Dev nD => levels0 (Ix := Unit) (Val := Elt F) (Name := ℕ) (U := UU) (Lvl := ℕ) (τ := τ) (sig := sig) c)
    ⊢ (|==> levAts L lv : sProp 𝕄) := by
  have hoff : (bigSep Finset.univ fun d : Dev nD => bigSep (Finset.univ.erase Proc.tc) fun p => (coreLevAts ((d, p) : Thread nD τ) L lv : sProp 𝕄)) = BI.emp := by
    have h0 (d : Dev nD) (p : Proc τ) (hp : p ≠ Proc.tc) : (coreLevAts ((d, p) : Thread nD τ) L lv : sProp 𝕄) = BI.emp := by
      unfold coreLevAts
      rw [bigSep_congr (Ψ := fun _ : SemLoc sig => (BI.emp : sProp 𝕄)) fun sm _ => by rw [L_of_ne (((d, p) : Thread nD τ), sm) hp, BI.bigSep_empty]]
      exact BI.bigSep_emp_const _
    rw [bigSep_congr (Ψ := fun _ : Dev nD => (BI.emp : sProp 𝕄)) fun d _ =>
      (bigSep_congr fun p hp => h0 d p (Finset.ne_of_mem_erase hp)).trans (BI.bigSep_emp_const _)]
    exact BI.bigSep_emp_const _
  have h1 (c : Dev nD) : (levels0 c : sProp 𝕄)
      ⊢ iprop(|==> ((bigSep Finset.univ fun sm : SemLoc sig => levels ((c : Thread nD τ), sm) (L ((c : Thread nD τ), sm))) ∗ coreLevAts (c : Thread nD τ) L lv)) :=
    lev_assign_cells (c : Thread nD τ) L lv
  refine (bigSep_mono fun c _ => h1 c).trans ((BI.bigSep_bupd _ _).trans (BI.bupd_mono ?_))
  have hall : (levAts L lv : sProp 𝕄) = (iprop((bigSep Finset.univ fun d : Dev nD => coreLevAts (d : Thread nD τ) L lv) ∗ emp) : sProp 𝕄) := by
    rw [show (iprop(emp) : sProp 𝕄) = _ from hoff.symm]
    exact (bigSep_univ_prod fun g : GSem nD τ sig => (bigSep (L g) fun ι => levAt g ι (lv g ι) : sProp 𝕄)).trans
      (bigSep_threads (fun c : Thread nD τ => coreLevAts c L lv))
  have h : iprop((bigSep Finset.univ fun c : Dev nD => bigSep Finset.univ fun sm : SemLoc sig => levels ((c : Thread nD τ), sm) (L ((c : Thread nD τ), sm)))
      ∗ bigSep Finset.univ fun c : Dev nD => coreLevAts (c : Thread nD τ) L lv) ⊢ (levAts L lv : sProp 𝕄) := by
    rw [hall]
    iintro ⟨-, H⟩
    isplitl [H]; · iexact H
    iempintro
  rw [bigSep_sep']
  exact h

/-- One device's part of the launch. -/
theorem core_parts (c : Dev nD) :
    coreInit (Ix := Unit) (Name := ℕ) (U := UU) (Lvl := ℕ) (Pipeline.owing fun d => OC d 0) 0 (⟨m, fun _ => 0, ρ⟩ : MemSt nD τ sig (Elt F)) (c : Thread nD τ)
      ⊢ (iprop((scopedBufs (c : Thread nD τ) ∗ Pipeline.cellsSems0 cfgs 0 c ∗ Pipeline.idleSems0 cfgs cellOf_inj 0 ownSemFacts c)
        ∗ owes (c : Thread nD τ) (OC c 0) ∅ ∗ levels0 c ∗ Pipeline.ownSems0 osem c ∗ unscopedBufs c (fun b => m ((c : Thread nD τ).loc b))
        ∗ Pipeline.launchCred (fun d : Dev nD => OC d 0) c) : sProp 𝕄) := by
  have hss := Pipeline.scopedSems0_split (Ix := Unit) (Val := Elt F) (Name := ℕ) (U := UU) (Lvl := ℕ) cfgs cellOf_inj (0 : Fin 1) winFacts0.to₀ ownSemFacts c
  refine (Pipeline.coreInit_boundary_owing (fun d => OC d 0) m ρ c).trans ?_
  have h : iprop(boundary (c : Thread nD τ) ∗ unscopedBufs c (fun b => m ((c : Thread nD τ).loc b)) ∗ unscopedSems0 c
        ∗ owes (c : Thread nD τ) (OC c 0) ∅ ∗ levels0 c ∗ prngReg c (ρ c) ∗ Pipeline.launchCred (fun d : Dev nD => OC d 0) c)
      ⊢ (iprop((scopedBufs (c : Thread nD τ) ∗ Pipeline.cellsSems0 cfgs 0 c ∗ Pipeline.idleSems0 cfgs cellOf_inj 0 ownSemFacts c)
        ∗ owes (c : Thread nD τ) (OC c 0) ∅ ∗ levels0 c ∗ Pipeline.ownSems0 osem c ∗ unscopedBufs c (fun b => m ((c : Thread nD τ).loc b))
        ∗ Pipeline.launchCred (fun d : Dev nD => OC d 0) c) : sProp 𝕄) := by
    unfold boundary
    rw [hss]
    iintro ⟨⟨Hsc, ⟨⟨Hcells, Hos⟩, Hidle⟩, -⟩, Hub, -, HL, Hlv, -, Hcr⟩
    isplitl [Hsc Hcells Hidle]
    · isplitl [Hsc]; · iexact Hsc
      isplitl [Hcells] <;> iassumption
    isplitl [HL]; · iexact HL
    isplitl [Hlv]; · iexact Hlv
    isplitl [Hos]; · iexact Hos
    isplitl [Hub] <;> iassumption
  exact h

/-- The launch deals every device. -/
theorem launched :
    iprop((bigSep Finset.univ fun c : Dev nD =>
          coreInit (Ix := Unit) (Name := ℕ) (U := UU) (Lvl := ℕ) (Pipeline.owing fun d => OC d 0) 0 (⟨m, fun _ => 0, ρ⟩ : MemSt nD τ sig (Elt F)) (c : Thread nD τ)) ∗ ownU u₀)
      ⊢ (iprop(|={Set.univ}=> bigSep Finset.univ fun c : Dev nD => dealt m c) : sProp 𝕄) := by
  have hpick (Φ : Fin 1 → Dev nD → sProp 𝕄) :
      (bigSep Finset.univ fun c : Dev nD => bigSep Finset.univ fun p => Φ p c) ⊢ bigSep Finset.univ fun c : Dev nD => Φ 0 c :=
    bigSep_mono fun c _ => BI.bigSep_elim (Finset.mem_univ 0)
  have hcores : (bigSep Finset.univ fun c : Dev nD =>
        coreInit (Ix := Unit) (Name := ℕ) (U := UU) (Lvl := ℕ) (Pipeline.owing fun d => OC d 0) 0 (⟨m, fun _ => 0, ρ⟩ : MemSt nD τ sig (Elt F)) (c : Thread nD τ))
      ⊢ (iprop((bigSep Finset.univ fun c : Dev nD => iprop(scopedBufs (c : Thread nD τ) ∗ Pipeline.cellsSems0 cfgs 0 c ∗ Pipeline.idleSems0 cfgs cellOf_inj 0 ownSemFacts c))
        ∗ (bigSep Finset.univ fun c : Dev nD => owes (c : Thread nD τ) (OC c 0) ∅) ∗ (bigSep Finset.univ fun c : Dev nD => levels0 c)
        ∗ (bigSep Finset.univ fun c : Dev nD => Pipeline.ownSems0 osem c) ∗ (bigSep Finset.univ fun c : Dev nD => unscopedBufs c (fun b => m ((c : Thread nD τ).loc b)))
        ∗ bigSep Finset.univ fun c : Dev nD => Pipeline.launchCred (fun d : Dev nD => OC d 0) c) : sProp 𝕄) := by
    rw [← bigSep_sep', ← bigSep_sep', ← bigSep_sep', ← bigSep_sep', ← bigSep_sep']
    exact bigSep_mono fun c _ => core_parts m ρ c
  have hla : (levAts L lv : sProp 𝕄) ⊢ bigSep Finset.univ fun _ : Dev nD => levAts L lv :=
    BI.bigSep_intro_persistent fun c _ => BI.Entails.refl _
  have hall : iprop((bigSep Finset.univ fun c : Dev nD => iprop(scopedBufs (c : Thread nD τ) ∗ Pipeline.cellsSems0 cfgs 0 c ∗ Pipeline.idleSems0 cfgs cellOf_inj 0 ownSemFacts c))
        ∗ (bigSep Finset.univ fun c : Dev nD => owes (c : Thread nD τ) (OC c 0) ∅) ∗ (bigSep Finset.univ fun _ : Dev nD => levAts L lv)
        ∗ (bigSep Finset.univ fun c : Dev nD => Pipeline.cellsGhost cfgs EP 0 c) ∗ (bigSep Finset.univ fun c : Dev nD => Pipeline.toksInit cfgs EP 0 c)
        ∗ bigSep Finset.univ fun c : Dev nD => start (giv m) (ini m) c)
      ⊢ (bigSep Finset.univ fun c : Dev nD => dealt m c : sProp 𝕄) := by
    rw [← bigSep_sep', ← bigSep_sep', ← bigSep_sep', ← bigSep_sep', ← bigSep_sep']
    exact BI.Entails.refl _
  iintro ⟨Hcores, Hu⟩
  ihave Hc := hcores $$ Hcores
  icases Hc with ⟨Hb, HL, Hlv, Hos, Hub, Hcr⟩
  ihave Hu := ghost_split $$ Hu
  icases Hu with ⟨HP, HG⟩
  imod levels_set $$ Hlv with #Hla
  imod (Pipeline.fund_ghost cfgs EP cellOf_inj) $$ HP with ⟨Hg, Ht⟩
  imod (deal m) $$ [Hos Hub Hcr HG] with HX
  · isplitl [Hos]; · iexact Hos
    isplitl [Hub]; · iexact Hub
    isplitl [Hcr]; · iexact Hcr
    isplitr; · iexact Hla
    iexact HG
  imodintro
  iapply hall
  isplitl [Hb]; · iexact Hb
  isplitl [HL]; · iexact HL
  isplitr; · iapply hla; iexact Hla
  isplitl [Hg]; · iapply (hpick fun p c => Pipeline.cellsGhost cfgs EP p c); iexact Hg
  isplitl [Ht]; · iapply (hpick fun p c => Pipeline.toksInit cfgs EP p c); iexact Ht
  iexact HX

/-- One device's end, read in the final memory. -/
theorem device_read (c : Dev nD) (s' : Phys nD τ sig (Elt F)) : iprop(ended m c ∗ SI s') ⊢ (iprop(|={Set.univ}=>
    (⌜Good m c s'.mem ∧ ∀ sm : SemLoc sig, sm.isScoped .tc = true → s'.mem.sem ((c : Thread nD τ), sm) = 0⌝ ∗ SI s')) : sProp 𝕄) := by
  unfold ended kept
  iintro ⟨⟨⟨Ho, Hx⟩, Hss⟩, HSI⟩
  ihave %hz := (tcScoped_read_pers c s') $$ [Hss HSI]
  · isplitl [Hss] <;> iassumption
  icombine HSI Ho gives %h1
  icombine HSI Hx gives %h2
  imodintro
  isplitr
  · ipureintro; exact ⟨⟨funext fun i => h1 i (Finset.mem_univ i), funext fun i => h2 i (Finset.mem_univ i)⟩, hz⟩
  · iexact HSI

/-- The program run from any memory with every semaphore at zero: every device ends with the gathered array and
    its rows as they were, and every semaphore is at zero. -/
theorem run_main : θ_run (defs (F := F)) (onTc (main (F := F))) ⟨m, fun _ => 0, ρ⟩
    (fun r => (∀ c, Good m c r.2) ∧ r.2.sem = fun _ => 0) := by
  refine (θ_run (defs (F := F)) _ _).mono
    (Q := fun r => (∀ c, Good m c r.2 ∧ ∀ sm : SemLoc sig, sm.isScoped .tc = true → r.2.sem ((c : Thread nD τ), sm) = 0) ∧ ∀ g' : GSem nD τ sig, g'.1.2 ≠ .tc → r.2.sem g' = 0)
    (fun r hr => ⟨fun c => (hr.1 c).1, sem_eq_zero_of_scoped (by decide) (sems_of_reads (fun c => (hr.1 c).2) hr.2)⟩)
    (adequate_tpu (defs (F := F)) _ _ _ (reflect_intro_fupd_tc_sems (X := Unit) (Variants.lift 𝒱₀) (Pipeline.owing fun d => OC d 0) 0 (noBookings fun _ => le_rfl)
      (Pipeline.owing_of_ne fun d => OC d 0) u₀ (fun _ => dealt m) (fun _ => ended m) (fun _ => iprop(emp)) Set.univ ?_ (fun _ c => device_run m c) fun _ => ?_))
  · iintro H
    imod (launched m ρ) $$ H with H
    imodintro
    iexists ()
    isplitl [H]
    · iexact H
    · iempintro
  · iintro ⟨H, -, Hsc⟩ %s' HSI
    ihave %hsc := (scSems_read_zero m ρ s') $$ [Hsc HSI]
    · isplitl [Hsc] <;> iassumption
    imod (posts_fupd Finset.univ (device_read m) s') $$ [H HSI] with %h
    · isplitl [H] <;> iassumption
    imodintro
    ipureintro
    exact ⟨fun c => h c (Finset.mem_univ c), hsc⟩

end Cert.KernelIdeal.Gather

end
-- ==== Proof.Value.lean ====
/-
  What the gathered array is, against the whole array the devices' arguments were cut from.
-/
module

public import proofs.«01_k».proof.Proof.Pieces
public import Idealize.ShloMosaic.Lib.Layout

@[expose] public section

noncomputable section

namespace Cert.KernelIdeal.Gather

open Idealize.ShloMosaic Idealize.ShloMosaic.TcCoe
open Cert.KernelIdeal Cert.KernelIdeal.Gen

variable {F : FTy → Type} [FloatOps F]

/-- The place of the whole array that a row of the owner's block was cut from is the place itself. -/
theorem place_back (h : Layout.Tiles S4096x1024 S16384x1024 0 4) (i : S16384x1024.Idx) : h.idx (owner i) (inner i) = i := by
  obtain ⟨h0, h1⟩ := Layout.idx_rows_val h (owner i) (inner i)
  funext a
  match a with
  | ⟨0, _⟩ =>
    refine Fin.ext (h0.trans ?_)
    show (i 0).val / 4096 * 4096 + (i 0).val % 4096 = (i 0).val
    omega
  | ⟨1, _⟩ => exact Fin.ext h1

/-- Where every device was given its block of `x`, the gathered array is `x` after the cast. -/
theorem all_block (h : Layout.Tiles S4096x1024 S16384x1024 0 4) (X : Given F) (x : S16384x1024.Idx → F .f32)
    (hX : ∀ c, X c = Layout.block S4096x1024 S16384x1024 0 4 c x h) :
    all X = truncf .bf16 x bitsLt_bf16_f32 := by
  funext i
  show cast1 (X (owner i) (inner i)) = cast1 (x i)
  rw [hX, Layout.block_apply, place_back]

end Cert.KernelIdeal.Gather

end
-- ==== Proof.lean ====
/- The certificate's claims, each from the run of the gather (Run.lean), the run of the reference, and the
   equation between the two values (Value.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem

/-- The kernel runs, leaves its argument as it was, and every semaphore ends at zero. -/
theorem frame_k : Cert.quiescent_Kernel := fun m ρ _ =>
  (θ_run Cert.KernelIdeal.defs _ _).mono (fun _ h => ⟨fun c => (h.1 c).2, h.2⟩)
    (Cert.KernelIdeal.Gather.run_main (F := Bits) m ρ)

/-- The same for the kernel read over the extended reals. -/
theorem frame_ki : Cert.quiescent_KernelIdeal := fun m ρ _ =>
  (θ_run Cert.KernelIdeal.defs _ _).mono (fun _ h => ⟨fun c => (h.1 c).2, h.2⟩)
    (Cert.KernelIdeal.Gather.run_main (F := Ideal) m ρ)

/-- The reference over the extended reals runs and leaves its argument as it was; it has no semaphores. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference runs and leaves its argument as it was; it has no semaphores. -/
theorem frame_r : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- Over the extended reals every device ends with the reference's array. -/
theorem algebraic : Cert.algebraic_KernelIdeal_ReferenceIdeal := by
  intro m ρ m' ρ' _ hX
  refine ⟨_, (θ_run Cert.KernelIdeal.defs _ _).mono (fun _ h c => ⟨(h.1 c).1.trans (Cert.KernelIdeal.Gather.all_block _ _ _ hX), (h.1 c).2⟩)
    (Cert.KernelIdeal.Gather.run_main (F := Ideal) m ρ),
    (θ_run Cert.ReferenceIdeal.defs _ _).mono (fun _ h => h 0) (Cert.ReferenceIdeal.Value.run (F := Ideal) m' ρ')⟩

/-- At the machine's own formats every device ends with the reference's array, bit for bit. -/
theorem bitexact : Cert.bitexact_Kernel_Reference := by
  intro m ρ m' ρ' _ hX
  refine ⟨_, (θ_run Cert.KernelIdeal.defs _ _).mono (fun _ h c => ⟨(h.1 c).1.trans (Cert.KernelIdeal.Gather.all_block _ _ _ hX), (h.1 c).2⟩)
    (Cert.KernelIdeal.Gather.run_main (F := Bits) m ρ),
    (θ_run Cert.Reference.defs _ _).mono (fun _ h => h 0) (Cert.Reference.Value.run (F := Bits) m' ρ')⟩

/-- All the claims, with the witnesses of the programs' stated facts. -/
theorem claim : Cert.Claim :=
  ⟨Cert.Kernel.Gen.facts, Cert.KernelIdeal.Gen.facts, Cert.ReferenceIdeal.Gen.facts, Cert.Reference.Gen.facts,
    frame_k, frame_ki, frame_ri, frame_r, trivial, algebraic, bitexact⟩

end Cert.Proof

end
